-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_QkvS (m : (ℓ : Loc Cert.QkvS.nD Cert.QkvS.τ Cert.QkvS.sig) → Buf (Elt Bits) ℓ) : Prop :=
  True

def Pre_QkvSIdeal (m : (ℓ : Loc Cert.QkvSIdeal.nD Cert.QkvSIdeal.τ Cert.QkvSIdeal.sig) → Buf (Elt Ideal) ℓ) : Prop :=
  True

def Pre_QkvSRefIdeal (m : (ℓ : Loc Cert.QkvSRefIdeal.nD Cert.QkvSRefIdeal.τ Cert.QkvSRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_GlaP (m : (ℓ : Loc Cert.GlaP.nD Cert.GlaP.τ Cert.GlaP.sig) → Buf (Elt Bits) ℓ) : Prop :=
  True

def Pre_GlaPIdeal (m : (ℓ : Loc Cert.GlaPIdeal.nD Cert.GlaPIdeal.τ Cert.GlaPIdeal.sig) → Buf (Elt Ideal) ℓ) : Prop :=
  True

def Pre_GlaPRefIdeal (m : (ℓ : Loc Cert.GlaPRefIdeal.nD Cert.GlaPRefIdeal.τ Cert.GlaPRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1)
      ∧ r.2.mem ((c.tc : Thread Cert.HgrnIn.nD Cert.HgrnIn.τ).loc Cert.HgrnIn.main_arg2) = m ((c.tc : Thread Cert.HgrnIn.nD Cert.HgrnIn.τ).loc Cert.HgrnIn.main_arg2)
      ∧ r.2.mem ((c.tc : Thread Cert.HgrnIn.nD Cert.HgrnIn.τ).loc Cert.HgrnIn.main_arg3) = m ((c.tc : Thread Cert.HgrnIn.nD Cert.HgrnIn.τ).loc Cert.HgrnIn.main_arg3))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
      ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2)
      ∧ r.2.mem ((c.tc : Thread Cert.HgrnInRefIdeal.nD Cert.HgrnInRefIdeal.τ).loc Cert.HgrnInRefIdeal.main_arg3) = m ((c.tc : Thread Cert.HgrnInRefIdeal.nD Cert.HgrnInRefIdeal.τ).loc Cert.HgrnInRefIdeal.main_arg3))
      ∧ r.2.sem = fun _ => 0)

def quiescent_QkvS [hQkvS : Cert.QkvS.Facts] : Prop :=
  ∀ (m : (ℓ : Loc Cert.QkvS.nD Cert.QkvS.τ Cert.QkvS.sig) → Buf (Elt Bits) ℓ) (g : Dev Cert.QkvS.nD → PrngReg), Pre_QkvS m →
    θ_run (Cert.QkvS.defs (F := Bits)) (onTc (τ := Cert.QkvS.τ) (Cert.QkvS.main (F := Bits))) ⟨m, fun _ => 0, g⟩ (fun r => (∀ c : Dev Cert.QkvS.nD,
      r.2.mem ((c.tc : Thread Cert.QkvS.nD Cert.QkvS.τ).loc Cert.QkvS.main_arg0) = m ((c.tc : Thread Cert.QkvS.nD Cert.QkvS.τ).loc Cert.QkvS.main_arg0)
      ∧ r.2.mem ((c.tc : Thread Cert.QkvS.nD Cert.QkvS.τ).loc Cert.QkvS.main_arg1) = m ((c.tc : Thread Cert.QkvS.nD Cert.QkvS.τ).loc Cert.QkvS.main_arg1)
      ∧ r.2.mem ((c.tc : Thread Cert.QkvS.nD Cert.QkvS.τ).loc Cert.QkvS.main_arg2) = m ((c.tc : Thread Cert.QkvS.nD Cert.QkvS.τ).loc Cert.QkvS.main_arg2))
      ∧ r.2.sem = fun _ => 0)

def quiescent_QkvSIdeal [hQkvSIdeal : Cert.QkvSIdeal.Facts] : Prop :=
  ∀ (m : (ℓ : Loc Cert.QkvSIdeal.nD Cert.QkvSIdeal.τ Cert.QkvSIdeal.sig) → Buf (Elt Ideal) ℓ) (g : Dev Cert.QkvSIdeal.nD → PrngReg), Pre_QkvSIdeal m →
    θ_run (Cert.QkvSIdeal.defs (F := Ideal)) (onTc (τ := Cert.QkvSIdeal.τ) (Cert.QkvSIdeal.main (F := Ideal))) ⟨m, fun _ => 0, g⟩ (fun r => (∀ c : Dev Cert.QkvSIdeal.nD,
      r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
      ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
      ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ r.2.sem = fun _ => 0)

def quiescent_QkvSRefIdeal [hQkvSRefIdeal : Cert.QkvSRefIdeal.Facts] : Prop :=
  ∀ (m : (ℓ : Loc Cert.QkvSRefIdeal.nD Cert.QkvSRefIdeal.τ Cert.QkvSRefIdeal.sig) → Buf (Elt Ideal) ℓ) (g : Dev Cert.QkvSRefIdeal.nD → PrngReg), Pre_QkvSRefIdeal m →
    θ_run (Cert.QkvSRefIdeal.defs (F := Ideal)) (onTc (τ := Cert.QkvSRefIdeal.τ) (Cert.QkvSRefIdeal.main (F := Ideal))) ⟨m, fun _ => 0, g⟩ (fun r => (∀ c : Dev Cert.QkvSRefIdeal.nD,
      r.2.mem ((c.tc : Thread Cert.QkvSRefIdeal.nD Cert.QkvSRefIdeal.τ).loc Cert.QkvSRefIdeal.main_arg0) = m ((c.tc : Thread Cert.QkvSRefIdeal.nD Cert.QkvSRefIdeal.τ).loc Cert.QkvSRefIdeal.main_arg0)
      ∧ r.2.mem ((c.tc : Thread Cert.QkvSRefIdeal.nD Cert.QkvSRefIdeal.τ).loc Cert.QkvSRefIdeal.main_arg1) = m ((c.tc : Thread Cert.QkvSRefIdeal.nD Cert.QkvSRefIdeal.τ).loc Cert.QkvSRefIdeal.main_arg1)
      ∧ r.2.mem ((c.tc : Thread Cert.QkvSRefIdeal.nD Cert.QkvSRefIdeal.τ).loc Cert.QkvSRefIdeal.main_arg2) = m ((c.tc : Thread Cert.QkvSRefIdeal.nD Cert.QkvSRefIdeal.τ).loc Cert.QkvSRefIdeal.main_arg2))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4)
      ∧ r.2.mem ((c.tc : Thread Cert.MlpS.nD Cert.MlpS.τ).loc Cert.MlpS.main_arg5) = m ((c.tc : Thread Cert.MlpS.nD Cert.MlpS.τ).loc Cert.MlpS.main_arg5)
      ∧ r.2.mem ((c.tc : Thread Cert.MlpS.nD Cert.MlpS.τ).loc Cert.MlpS.main_arg6) = m ((c.tc : Thread Cert.MlpS.nD Cert.MlpS.τ).loc Cert.MlpS.main_arg6))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
      ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5)
      ∧ r.2.mem ((c.tc : Thread Cert.MlpSIdeal.nD Cert.MlpSIdeal.τ).loc Cert.MlpSIdeal.main_arg6) = m ((c.tc : Thread Cert.MlpSIdeal.nD Cert.MlpSIdeal.τ).loc Cert.MlpSIdeal.main_arg6))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4)
      ∧ r.2.mem ((c.tc : Thread Cert.MlpSRefIdeal.nD Cert.MlpSRefIdeal.τ).loc Cert.MlpSRefIdeal.main_arg5) = m ((c.tc : Thread Cert.MlpSRefIdeal.nD Cert.MlpSRefIdeal.τ).loc Cert.MlpSRefIdeal.main_arg5)
      ∧ r.2.mem ((c.tc : Thread Cert.MlpSRefIdeal.nD Cert.MlpSRefIdeal.τ).loc Cert.MlpSRefIdeal.main_arg6) = m ((c.tc : Thread Cert.MlpSRefIdeal.nD Cert.MlpSRefIdeal.τ).loc Cert.MlpSRefIdeal.main_arg6))
      ∧ r.2.sem = fun _ => 0)

def quiescent_GlaP [hGlaP : Cert.GlaP.Facts] : Prop :=
  ∀ (m : (ℓ : Loc Cert.GlaP.nD Cert.GlaP.τ Cert.GlaP.sig) → Buf (Elt Bits) ℓ) (g : Dev Cert.GlaP.nD → PrngReg), Pre_GlaP m →
    θ_run (Cert.GlaP.defs (F := Bits)) (onTc (τ := Cert.GlaP.τ) (Cert.GlaP.main (F := Bits))) ⟨m, fun _ => 0, g⟩ (fun r => (∀ c : Dev Cert.GlaP.nD,
      r.2.mem ((c.tc : Thread Cert.GlaP.nD Cert.GlaP.τ).loc Cert.GlaP.main_arg0) = m ((c.tc : Thread Cert.GlaP.nD Cert.GlaP.τ).loc Cert.GlaP.main_arg0)
      ∧ r.2.mem ((c.tc : Thread Cert.GlaP.nD Cert.GlaP.τ).loc Cert.GlaP.main_arg1) = m ((c.tc : Thread Cert.GlaP.nD Cert.GlaP.τ).loc Cert.GlaP.main_arg1)
      ∧ r.2.mem ((c.tc : Thread Cert.GlaP.nD Cert.GlaP.τ).loc Cert.GlaP.main_arg2) = m ((c.tc : Thread Cert.GlaP.nD Cert.GlaP.τ).loc Cert.GlaP.main_arg2)
      ∧ r.2.mem ((c.tc : Thread Cert.GlaP.nD Cert.GlaP.τ).loc Cert.GlaP.main_arg3) = m ((c.tc : Thread Cert.GlaP.nD Cert.GlaP.τ).loc Cert.GlaP.main_arg3)
      ∧ r.2.mem ((c.tc : Thread Cert.GlaP.nD Cert.GlaP.τ).loc Cert.GlaP.main_arg4) = m ((c.tc : Thread Cert.GlaP.nD Cert.GlaP.τ).loc Cert.GlaP.main_arg4)
      ∧ r.2.mem ((c.tc : Thread Cert.GlaP.nD Cert.GlaP.τ).loc Cert.GlaP.main_arg5) = m ((c.tc : Thread Cert.GlaP.nD Cert.GlaP.τ).loc Cert.GlaP.main_arg5)
      ∧ r.2.mem ((c.tc : Thread Cert.GlaP.nD Cert.GlaP.τ).loc Cert.GlaP.main_arg6) = m ((c.tc : Thread Cert.GlaP.nD Cert.GlaP.τ).loc Cert.GlaP.main_arg6))
      ∧ r.2.sem = fun _ => 0)

def quiescent_GlaPIdeal [hGlaPIdeal : Cert.GlaPIdeal.Facts] : Prop :=
  ∀ (m : (ℓ : Loc Cert.GlaPIdeal.nD Cert.GlaPIdeal.τ Cert.GlaPIdeal.sig) → Buf (Elt Ideal) ℓ) (g : Dev Cert.GlaPIdeal.nD → PrngReg), Pre_GlaPIdeal m →
    θ_run (Cert.GlaPIdeal.defs (F := Ideal)) (onTc (τ := Cert.GlaPIdeal.τ) (Cert.GlaPIdeal.main (F := Ideal))) ⟨m, fun _ => 0, g⟩ (fun r => (∀ c : Dev Cert.GlaPIdeal.nD,
      r.2.mem ((c.tc : Thread Cert.GlaPIdeal.nD Cert.GlaPIdeal.τ).loc Cert.GlaPIdeal.main_arg0) = m ((c.tc : Thread Cert.GlaPIdeal.nD Cert.GlaPIdeal.τ).loc Cert.GlaPIdeal.main_arg0)
      ∧ r.2.mem ((c.tc : Thread Cert.GlaPIdeal.nD Cert.GlaPIdeal.τ).loc Cert.GlaPIdeal.main_arg1) = m ((c.tc : Thread Cert.GlaPIdeal.nD Cert.GlaPIdeal.τ).loc Cert.GlaPIdeal.main_arg1)
      ∧ r.2.mem ((c.tc : Thread Cert.GlaPIdeal.nD Cert.GlaPIdeal.τ).loc Cert.GlaPIdeal.main_arg2) = m ((c.tc : Thread Cert.GlaPIdeal.nD Cert.GlaPIdeal.τ).loc Cert.GlaPIdeal.main_arg2)
      ∧ r.2.mem ((c.tc : Thread Cert.GlaPIdeal.nD Cert.GlaPIdeal.τ).loc Cert.GlaPIdeal.main_arg3) = m ((c.tc : Thread Cert.GlaPIdeal.nD Cert.GlaPIdeal.τ).loc Cert.GlaPIdeal.main_arg3)
      ∧ r.2.mem ((c.tc : Thread Cert.GlaPIdeal.nD Cert.GlaPIdeal.τ).loc Cert.GlaPIdeal.main_arg4) = m ((c.tc : Thread Cert.GlaPIdeal.nD Cert.GlaPIdeal.τ).loc Cert.GlaPIdeal.main_arg4)
      ∧ r.2.mem ((c.tc : Thread Cert.GlaPIdeal.nD Cert.GlaPIdeal.τ).loc Cert.GlaPIdeal.main_arg5) = m ((c.tc : Thread Cert.GlaPIdeal.nD Cert.GlaPIdeal.τ).loc Cert.GlaPIdeal.main_arg5)
      ∧ r.2.mem ((c.tc : Thread Cert.GlaPIdeal.nD Cert.GlaPIdeal.τ).loc Cert.GlaPIdeal.main_arg6) = m ((c.tc : Thread Cert.GlaPIdeal.nD Cert.GlaPIdeal.τ).loc Cert.GlaPIdeal.main_arg6))
      ∧ r.2.sem = fun _ => 0)

def quiescent_GlaPRefIdeal [hGlaPRefIdeal : Cert.GlaPRefIdeal.Facts] : Prop :=
  ∀ (m : (ℓ : Loc Cert.GlaPRefIdeal.nD Cert.GlaPRefIdeal.τ Cert.GlaPRefIdeal.sig) → Buf (Elt Ideal) ℓ) (g : Dev Cert.GlaPRefIdeal.nD → PrngReg), Pre_GlaPRefIdeal m →
    θ_run (Cert.GlaPRefIdeal.defs (F := Ideal)) (onTc (τ := Cert.GlaPRefIdeal.τ) (Cert.GlaPRefIdeal.main (F := Ideal))) ⟨m, fun _ => 0, g⟩ (fun r => (∀ c : Dev Cert.GlaPRefIdeal.nD,
      r.2.mem ((c.tc : Thread Cert.GlaPRefIdeal.nD Cert.GlaPRefIdeal.τ).loc Cert.GlaPRefIdeal.main_arg0) = m ((c.tc : Thread Cert.GlaPRefIdeal.nD Cert.GlaPRefIdeal.τ).loc Cert.GlaPRefIdeal.main_arg0)
      ∧ r.2.mem ((c.tc : Thread Cert.GlaPRefIdeal.nD Cert.GlaPRefIdeal.τ).loc Cert.GlaPRefIdeal.main_arg1) = m ((c.tc : Thread Cert.GlaPRefIdeal.nD Cert.GlaPRefIdeal.τ).loc Cert.GlaPRefIdeal.main_arg1)
      ∧ r.2.mem ((c.tc : Thread Cert.GlaPRefIdeal.nD Cert.GlaPRefIdeal.τ).loc Cert.GlaPRefIdeal.main_arg2) = m ((c.tc : Thread Cert.GlaPRefIdeal.nD Cert.GlaPRefIdeal.τ).loc Cert.GlaPRefIdeal.main_arg2)
      ∧ r.2.mem ((c.tc : Thread Cert.GlaPRefIdeal.nD Cert.GlaPRefIdeal.τ).loc Cert.GlaPRefIdeal.main_arg3) = m ((c.tc : Thread Cert.GlaPRefIdeal.nD Cert.GlaPRefIdeal.τ).loc Cert.GlaPRefIdeal.main_arg3)
      ∧ r.2.mem ((c.tc : Thread Cert.GlaPRefIdeal.nD Cert.GlaPRefIdeal.τ).loc Cert.GlaPRefIdeal.main_arg4) = m ((c.tc : Thread Cert.GlaPRefIdeal.nD Cert.GlaPRefIdeal.τ).loc Cert.GlaPRefIdeal.main_arg4)
      ∧ r.2.mem ((c.tc : Thread Cert.GlaPRefIdeal.nD Cert.GlaPRefIdeal.τ).loc Cert.GlaPRefIdeal.main_arg5) = m ((c.tc : Thread Cert.GlaPRefIdeal.nD Cert.GlaPRefIdeal.τ).loc Cert.GlaPRefIdeal.main_arg5)
      ∧ r.2.mem ((c.tc : Thread Cert.GlaPRefIdeal.nD Cert.GlaPRefIdeal.τ).loc Cert.GlaPRefIdeal.main_arg6) = m ((c.tc : Thread Cert.GlaPRefIdeal.nD Cert.GlaPRefIdeal.τ).loc Cert.GlaPRefIdeal.main_arg6))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def preserves_Gla_GlaIdeal : Prop :=
  IdealRules.named_const.Statement Cert.GlaIdeal.κ "log2e" .f32 0x3FB8AA3B#32 (((Real.log 2)⁻¹ : ℝ) : EReal)

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)) →
    ∃ (v0 : (c : Dev Cert.GlaIdeal.nD) → Buf (Elt Ideal) ((c.tc : Thread Cert.GlaIdeal.nD Cert.GlaIdeal.τ).loc Cert.GlaIdeal.main_v11_0)) (v1 : (c : Dev Cert.GlaIdeal.nD) → Buf (Elt Ideal) ((c.tc : Thread Cert.GlaIdeal.nD Cert.GlaIdeal.τ).loc Cert.GlaIdeal.main_v11_1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v11_0) = v0 c
          ∧ r.2.mem ((c.tc : Thread Cert.GlaIdeal.nD Cert.GlaIdeal.τ).loc Cert.GlaIdeal.main_v11_1) = v1 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v62) = v0 c
          ∧ r.2.mem ((c.tc : Thread Cert.GlaRefIdeal.nD Cert.GlaRefIdeal.τ).loc Cert.GlaRefIdeal.main_v42) = v1 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v40) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v25) = v0 c
          ∧ r.2.mem ((c.tc : Thread Cert.QkvRefIdeal.nD Cert.QkvRefIdeal.τ).loc Cert.QkvRefIdeal.main_v26) = v1 c
          ∧ r.2.mem ((c.tc : Thread Cert.QkvRefIdeal.nD Cert.QkvRefIdeal.τ).loc Cert.QkvRefIdeal.main_v27) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)
      ∧ m' ((c.tc : Thread Cert.HgrnInRefIdeal.nD Cert.HgrnInRefIdeal.τ).loc Cert.HgrnInRefIdeal.main_arg2) = m ((c.tc : Thread Cert.HgrnInIdeal.nD Cert.HgrnInIdeal.τ).loc Cert.HgrnInIdeal.main_arg2)
      ∧ m' ((c.tc : Thread Cert.HgrnInRefIdeal.nD Cert.HgrnInRefIdeal.τ).loc Cert.HgrnInRefIdeal.main_arg3) = m ((c.tc : Thread Cert.HgrnInIdeal.nD Cert.HgrnInIdeal.τ).loc Cert.HgrnInIdeal.main_arg3)) →
    ∃ (v0 : (c : Dev Cert.HgrnInIdeal.nD) → Buf (Elt Ideal) ((c.tc : Thread Cert.HgrnInIdeal.nD Cert.HgrnInIdeal.τ).loc Cert.HgrnInIdeal.main_v4_0)) (v1 : (c : Dev Cert.HgrnInIdeal.nD) → Buf (Elt Ideal) ((c.tc : Thread Cert.HgrnInIdeal.nD Cert.HgrnInIdeal.τ).loc Cert.HgrnInIdeal.main_v4_1)) (v2 : (c : Dev Cert.HgrnInIdeal.nD) → Buf (Elt Ideal) ((c.tc : Thread Cert.HgrnInIdeal.nD Cert.HgrnInIdeal.τ).loc Cert.HgrnInIdeal.main_v4_2)) (v3 : (c : Dev Cert.HgrnInIdeal.nD) → Buf (Elt Ideal) ((c.tc : Thread Cert.HgrnInIdeal.nD Cert.HgrnInIdeal.τ).loc Cert.HgrnInIdeal.main_v4_3)) (v4 : (c : Dev Cert.HgrnInIdeal.nD) → Buf (Elt Ideal) ((c.tc : Thread Cert.HgrnInIdeal.nD Cert.HgrnInIdeal.τ).loc Cert.HgrnInIdeal.main_v4_4)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v4_0) = v0 c
          ∧ r.2.mem ((c.tc : Thread Cert.HgrnInIdeal.nD Cert.HgrnInIdeal.τ).loc Cert.HgrnInIdeal.main_v4_1) = v1 c
          ∧ r.2.mem ((c.tc : Thread Cert.HgrnInIdeal.nD Cert.HgrnInIdeal.τ).loc Cert.HgrnInIdeal.main_v4_2) = v2 c
          ∧ r.2.mem ((c.tc : Thread Cert.HgrnInIdeal.nD Cert.HgrnInIdeal.τ).loc Cert.HgrnInIdeal.main_v4_3) = v3 c
          ∧ r.2.mem ((c.tc : Thread Cert.HgrnInIdeal.nD Cert.HgrnInIdeal.τ).loc Cert.HgrnInIdeal.main_v4_4) = v4 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
          ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2)
          ∧ r.2.mem ((c.tc : Thread Cert.HgrnInIdeal.nD Cert.HgrnInIdeal.τ).loc Cert.HgrnInIdeal.main_arg3) = m ((c.tc : Thread Cert.HgrnInIdeal.nD Cert.HgrnInIdeal.τ).loc Cert.HgrnInIdeal.main_arg3))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v55) = v0 c
          ∧ r.2.mem ((c.tc : Thread Cert.HgrnInRefIdeal.nD Cert.HgrnInRefIdeal.τ).loc Cert.HgrnInRefIdeal.main_v57) = v1 c
          ∧ r.2.mem ((c.tc : Thread Cert.HgrnInRefIdeal.nD Cert.HgrnInRefIdeal.τ).loc Cert.HgrnInRefIdeal.main_v37) = v2 c
          ∧ r.2.mem ((c.tc : Thread Cert.HgrnInRefIdeal.nD Cert.HgrnInRefIdeal.τ).loc Cert.HgrnInRefIdeal.main_v58) = v3 c
          ∧ r.2.mem ((c.tc : Thread Cert.HgrnInRefIdeal.nD Cert.HgrnInRefIdeal.τ).loc Cert.HgrnInRefIdeal.main_v59) = v4 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1)
          ∧ r.2.mem ((c.tc : Thread Cert.HgrnInRefIdeal.nD Cert.HgrnInRefIdeal.τ).loc Cert.HgrnInRefIdeal.main_arg2) = m' ((c.tc : Thread Cert.HgrnInRefIdeal.nD Cert.HgrnInRefIdeal.τ).loc Cert.HgrnInRefIdeal.main_arg2)
          ∧ r.2.mem ((c.tc : Thread Cert.HgrnInRefIdeal.nD Cert.HgrnInRefIdeal.τ).loc Cert.HgrnInRefIdeal.main_arg3) = m' ((c.tc : Thread Cert.HgrnInRefIdeal.nD Cert.HgrnInRefIdeal.τ).loc Cert.HgrnInRefIdeal.main_arg3))

def preserves_QkvS_QkvSIdeal : Prop :=
  True

def algebraic_QkvSIdeal_QkvSRefIdeal [hQkvSIdeal : Cert.QkvSIdeal.Facts] [hQkvSRefIdeal : Cert.QkvSRefIdeal.Facts] : Prop :=
  ∀ (m : (ℓ : Loc Cert.QkvSIdeal.nD Cert.QkvSIdeal.τ Cert.QkvSIdeal.sig) → Buf (Elt Ideal) ℓ) (g : Dev Cert.QkvSIdeal.nD → PrngReg)
    (m' : (ℓ : Loc Cert.QkvSRefIdeal.nD Cert.QkvSRefIdeal.τ Cert.QkvSRefIdeal.sig) → Buf (Elt Ideal) ℓ) (g' : Dev Cert.QkvSRefIdeal.nD → PrngReg), Pre_QkvSIdeal m →
    (∀ c : Dev Cert.QkvSIdeal.nD,
      m' ((c.tc : Thread Cert.QkvSRefIdeal.nD Cert.QkvSRefIdeal.τ).loc Cert.QkvSRefIdeal.main_arg0) = m ((c.tc : Thread Cert.QkvSIdeal.nD Cert.QkvSIdeal.τ).loc Cert.QkvSIdeal.main_arg0)
      ∧ m' ((c.tc : Thread Cert.QkvSRefIdeal.nD Cert.QkvSRefIdeal.τ).loc Cert.QkvSRefIdeal.main_arg1) = m ((c.tc : Thread Cert.QkvSIdeal.nD Cert.QkvSIdeal.τ).loc Cert.QkvSIdeal.main_arg1)
      ∧ m' ((c.tc : Thread Cert.QkvSRefIdeal.nD Cert.QkvSRefIdeal.τ).loc Cert.QkvSRefIdeal.main_arg2) = m ((c.tc : Thread Cert.QkvSIdeal.nD Cert.QkvSIdeal.τ).loc Cert.QkvSIdeal.main_arg2)) →
    ∃ (v0 : (c : Dev Cert.QkvSIdeal.nD) → Buf (Elt Ideal) ((c.tc : Thread Cert.QkvSIdeal.nD Cert.QkvSIdeal.τ).loc Cert.QkvSIdeal.main_v6_0)) (v1 : (c : Dev Cert.QkvSIdeal.nD) → Buf (Elt Ideal) ((c.tc : Thread Cert.QkvSIdeal.nD Cert.QkvSIdeal.τ).loc Cert.QkvSIdeal.main_v6_1)) (v2 : (c : Dev Cert.QkvSIdeal.nD) → Buf (Elt Ideal) ((c.tc : Thread Cert.QkvSIdeal.nD Cert.QkvSIdeal.τ).loc Cert.QkvSIdeal.main_v6_2)),
      θ_run (Cert.QkvSIdeal.defs (F := Ideal)) (onTc (τ := Cert.QkvSIdeal.τ) (Cert.QkvSIdeal.main (F := Ideal))) ⟨m, fun _ => 0, g⟩ (fun r => ∀ c : Dev Cert.QkvSIdeal.nD,
          r.2.mem ((c.tc : Thread Cert.QkvSIdeal.nD Cert.QkvSIdeal.τ).loc Cert.QkvSIdeal.main_v6_0) = v0 c
          ∧ r.2.mem ((c.tc : Thread Cert.QkvSIdeal.nD Cert.QkvSIdeal.τ).loc Cert.QkvSIdeal.main_v6_1) = v1 c
          ∧ r.2.mem ((c.tc : Thread Cert.QkvSIdeal.nD Cert.QkvSIdeal.τ).loc Cert.QkvSIdeal.main_v6_2) = v2 c
          ∧ r.2.mem ((c.tc : Thread Cert.QkvSIdeal.nD Cert.QkvSIdeal.τ).loc Cert.QkvSIdeal.main_arg0) = m ((c.tc : Thread Cert.QkvSIdeal.nD Cert.QkvSIdeal.τ).loc Cert.QkvSIdeal.main_arg0)
          ∧ r.2.mem ((c.tc : Thread Cert.QkvSIdeal.nD Cert.QkvSIdeal.τ).loc Cert.QkvSIdeal.main_arg1) = m ((c.tc : Thread Cert.QkvSIdeal.nD Cert.QkvSIdeal.τ).loc Cert.QkvSIdeal.main_arg1)
          ∧ r.2.mem ((c.tc : Thread Cert.QkvSIdeal.nD Cert.QkvSIdeal.τ).loc Cert.QkvSIdeal.main_arg2) = m ((c.tc : Thread Cert.QkvSIdeal.nD Cert.QkvSIdeal.τ).loc Cert.QkvSIdeal.main_arg2))
      ∧ θ_run (Cert.QkvSRefIdeal.defs (F := Ideal)) (onTc (τ := Cert.QkvSRefIdeal.τ) (Cert.QkvSRefIdeal.main (F := Ideal))) ⟨m', fun _ => 0, g'⟩ (fun r => ∀ c : Dev Cert.QkvSRefIdeal.nD,
          r.2.mem ((c.tc : Thread Cert.QkvSRefIdeal.nD Cert.QkvSRefIdeal.τ).loc Cert.QkvSRefIdeal.main_v22) = v0 c
          ∧ r.2.mem ((c.tc : Thread Cert.QkvSRefIdeal.nD Cert.QkvSRefIdeal.τ).loc Cert.QkvSRefIdeal.main_v26) = v1 c
          ∧ r.2.mem ((c.tc : Thread Cert.QkvSRefIdeal.nD Cert.QkvSRefIdeal.τ).loc Cert.QkvSRefIdeal.main_v30) = v2 c
          ∧ r.2.mem ((c.tc : Thread Cert.QkvSRefIdeal.nD Cert.QkvSRefIdeal.τ).loc Cert.QkvSRefIdeal.main_arg0) = m' ((c.tc : Thread Cert.QkvSRefIdeal.nD Cert.QkvSRefIdeal.τ).loc Cert.QkvSRefIdeal.main_arg0)
          ∧ r.2.mem ((c.tc : Thread Cert.QkvSRefIdeal.nD Cert.QkvSRefIdeal.τ).loc Cert.QkvSRefIdeal.main_arg1) = m' ((c.tc : Thread Cert.QkvSRefIdeal.nD Cert.QkvSRefIdeal.τ).loc Cert.QkvSRefIdeal.main_arg1)
          ∧ r.2.mem ((c.tc : Thread Cert.QkvSRefIdeal.nD Cert.QkvSRefIdeal.τ).loc Cert.QkvSRefIdeal.main_arg2) = m' ((c.tc : Thread Cert.QkvSRefIdeal.nD Cert.QkvSRefIdeal.τ).loc Cert.QkvSRefIdeal.main_arg2))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)
      ∧ m' ((c.tc : Thread Cert.MlpSRefIdeal.nD Cert.MlpSRefIdeal.τ).loc Cert.MlpSRefIdeal.main_arg5) = m ((c.tc : Thread Cert.MlpSIdeal.nD Cert.MlpSIdeal.τ).loc Cert.MlpSIdeal.main_arg5)
      ∧ m' ((c.tc : Thread Cert.MlpSRefIdeal.nD Cert.MlpSRefIdeal.τ).loc Cert.MlpSRefIdeal.main_arg6) = m ((c.tc : Thread Cert.MlpSIdeal.nD Cert.MlpSIdeal.τ).loc Cert.MlpSIdeal.main_arg6)) →
    ∃ (v0 : (c : Dev Cert.MlpSIdeal.nD) → Buf (Elt Ideal) ((c.tc : Thread Cert.MlpSIdeal.nD Cert.MlpSIdeal.τ).loc Cert.MlpSIdeal.main_v6)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v6) = v0 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4)
          ∧ r.2.mem ((c.tc : Thread Cert.MlpSIdeal.nD Cert.MlpSIdeal.τ).loc Cert.MlpSIdeal.main_arg5) = m ((c.tc : Thread Cert.MlpSIdeal.nD Cert.MlpSIdeal.τ).loc Cert.MlpSIdeal.main_arg5)
          ∧ r.2.mem ((c.tc : Thread Cert.MlpSIdeal.nD Cert.MlpSIdeal.τ).loc Cert.MlpSIdeal.main_arg6) = m ((c.tc : Thread Cert.MlpSIdeal.nD Cert.MlpSIdeal.τ).loc Cert.MlpSIdeal.main_arg6))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v42) = v0 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4)
          ∧ r.2.mem ((c.tc : Thread Cert.MlpSRefIdeal.nD Cert.MlpSRefIdeal.τ).loc Cert.MlpSRefIdeal.main_arg5) = m' ((c.tc : Thread Cert.MlpSRefIdeal.nD Cert.MlpSRefIdeal.τ).loc Cert.MlpSRefIdeal.main_arg5)
          ∧ r.2.mem ((c.tc : Thread Cert.MlpSRefIdeal.nD Cert.MlpSRefIdeal.τ).loc Cert.MlpSRefIdeal.main_arg6) = m' ((c.tc : Thread Cert.MlpSRefIdeal.nD Cert.MlpSRefIdeal.τ).loc Cert.MlpSRefIdeal.main_arg6))

def preserves_GlaP_GlaPIdeal : Prop :=
  IdealRules.named_const.Statement Cert.GlaPIdeal.κ "log2e" .f32 0x3FB8AA3B#32 (((Real.log 2)⁻¹ : ℝ) : EReal)

def algebraic_GlaPIdeal_GlaPRefIdeal [hGlaPIdeal : Cert.GlaPIdeal.Facts] [hGlaPRefIdeal : Cert.GlaPRefIdeal.Facts] : Prop :=
  ∀ (m : (ℓ : Loc Cert.GlaPIdeal.nD Cert.GlaPIdeal.τ Cert.GlaPIdeal.sig) → Buf (Elt Ideal) ℓ) (g : Dev Cert.GlaPIdeal.nD → PrngReg)
    (m' : (ℓ : Loc Cert.GlaPRefIdeal.nD Cert.GlaPRefIdeal.τ Cert.GlaPRefIdeal.sig) → Buf (Elt Ideal) ℓ) (g' : Dev Cert.GlaPRefIdeal.nD → PrngReg), Pre_GlaPIdeal m →
    (∀ c : Dev Cert.GlaPIdeal.nD,
      m' ((c.tc : Thread Cert.GlaPRefIdeal.nD Cert.GlaPRefIdeal.τ).loc Cert.GlaPRefIdeal.main_arg0) = m ((c.tc : Thread Cert.GlaPIdeal.nD Cert.GlaPIdeal.τ).loc Cert.GlaPIdeal.main_arg0)
      ∧ m' ((c.tc : Thread Cert.GlaPRefIdeal.nD Cert.GlaPRefIdeal.τ).loc Cert.GlaPRefIdeal.main_arg1) = m ((c.tc : Thread Cert.GlaPIdeal.nD Cert.GlaPIdeal.τ).loc Cert.GlaPIdeal.main_arg1)
      ∧ m' ((c.tc : Thread Cert.GlaPRefIdeal.nD Cert.GlaPRefIdeal.τ).loc Cert.GlaPRefIdeal.main_arg2) = m ((c.tc : Thread Cert.GlaPIdeal.nD Cert.GlaPIdeal.τ).loc Cert.GlaPIdeal.main_arg2)
      ∧ m' ((c.tc : Thread Cert.GlaPRefIdeal.nD Cert.GlaPRefIdeal.τ).loc Cert.GlaPRefIdeal.main_arg3) = m ((c.tc : Thread Cert.GlaPIdeal.nD Cert.GlaPIdeal.τ).loc Cert.GlaPIdeal.main_arg3)
      ∧ m' ((c.tc : Thread Cert.GlaPRefIdeal.nD Cert.GlaPRefIdeal.τ).loc Cert.GlaPRefIdeal.main_arg4) = m ((c.tc : Thread Cert.GlaPIdeal.nD Cert.GlaPIdeal.τ).loc Cert.GlaPIdeal.main_arg4)
      ∧ m' ((c.tc : Thread Cert.GlaPRefIdeal.nD Cert.GlaPRefIdeal.τ).loc Cert.GlaPRefIdeal.main_arg5) = m ((c.tc : Thread Cert.GlaPIdeal.nD Cert.GlaPIdeal.τ).loc Cert.GlaPIdeal.main_arg5)
      ∧ m' ((c.tc : Thread Cert.GlaPRefIdeal.nD Cert.GlaPRefIdeal.τ).loc Cert.GlaPRefIdeal.main_arg6) = m ((c.tc : Thread Cert.GlaPIdeal.nD Cert.GlaPIdeal.τ).loc Cert.GlaPIdeal.main_arg6)) →
    ∃ (v0 : (c : Dev Cert.GlaPIdeal.nD) → Buf (Elt Ideal) ((c.tc : Thread Cert.GlaPIdeal.nD Cert.GlaPIdeal.τ).loc Cert.GlaPIdeal.main_v1_1)),
      θ_run (Cert.GlaPIdeal.defs (F := Ideal)) (onTc (τ := Cert.GlaPIdeal.τ) (Cert.GlaPIdeal.main (F := Ideal))) ⟨m, fun _ => 0, g⟩ (fun r => ∀ c : Dev Cert.GlaPIdeal.nD,
          r.2.mem ((c.tc : Thread Cert.GlaPIdeal.nD Cert.GlaPIdeal.τ).loc Cert.GlaPIdeal.main_v1_1) = v0 c
          ∧ r.2.mem ((c.tc : Thread Cert.GlaPIdeal.nD Cert.GlaPIdeal.τ).loc Cert.GlaPIdeal.main_arg0) = m ((c.tc : Thread Cert.GlaPIdeal.nD Cert.GlaPIdeal.τ).loc Cert.GlaPIdeal.main_arg0)
          ∧ r.2.mem ((c.tc : Thread Cert.GlaPIdeal.nD Cert.GlaPIdeal.τ).loc Cert.GlaPIdeal.main_arg1) = m ((c.tc : Thread Cert.GlaPIdeal.nD Cert.GlaPIdeal.τ).loc Cert.GlaPIdeal.main_arg1)
          ∧ r.2.mem ((c.tc : Thread Cert.GlaPIdeal.nD Cert.GlaPIdeal.τ).loc Cert.GlaPIdeal.main_arg2) = m ((c.tc : Thread Cert.GlaPIdeal.nD Cert.GlaPIdeal.τ).loc Cert.GlaPIdeal.main_arg2)
          ∧ r.2.mem ((c.tc : Thread Cert.GlaPIdeal.nD Cert.GlaPIdeal.τ).loc Cert.GlaPIdeal.main_arg3) = m ((c.tc : Thread Cert.GlaPIdeal.nD Cert.GlaPIdeal.τ).loc Cert.GlaPIdeal.main_arg3)
          ∧ r.2.mem ((c.tc : Thread Cert.GlaPIdeal.nD Cert.GlaPIdeal.τ).loc Cert.GlaPIdeal.main_arg4) = m ((c.tc : Thread Cert.GlaPIdeal.nD Cert.GlaPIdeal.τ).loc Cert.GlaPIdeal.main_arg4)
          ∧ r.2.mem ((c.tc : Thread Cert.GlaPIdeal.nD Cert.GlaPIdeal.τ).loc Cert.GlaPIdeal.main_arg5) = m ((c.tc : Thread Cert.GlaPIdeal.nD Cert.GlaPIdeal.τ).loc Cert.GlaPIdeal.main_arg5)
          ∧ r.2.mem ((c.tc : Thread Cert.GlaPIdeal.nD Cert.GlaPIdeal.τ).loc Cert.GlaPIdeal.main_arg6) = m ((c.tc : Thread Cert.GlaPIdeal.nD Cert.GlaPIdeal.τ).loc Cert.GlaPIdeal.main_arg6))
      ∧ θ_run (Cert.GlaPRefIdeal.defs (F := Ideal)) (onTc (τ := Cert.GlaPRefIdeal.τ) (Cert.GlaPRefIdeal.main (F := Ideal))) ⟨m', fun _ => 0, g'⟩ (fun r => ∀ c : Dev Cert.GlaPRefIdeal.nD,
          r.2.mem ((c.tc : Thread Cert.GlaPRefIdeal.nD Cert.GlaPRefIdeal.τ).loc Cert.GlaPRefIdeal.main_v6_4) = v0 c
          ∧ r.2.mem ((c.tc : Thread Cert.GlaPRefIdeal.nD Cert.GlaPRefIdeal.τ).loc Cert.GlaPRefIdeal.main_arg0) = m' ((c.tc : Thread Cert.GlaPRefIdeal.nD Cert.GlaPRefIdeal.τ).loc Cert.GlaPRefIdeal.main_arg0)
          ∧ r.2.mem ((c.tc : Thread Cert.GlaPRefIdeal.nD Cert.GlaPRefIdeal.τ).loc Cert.GlaPRefIdeal.main_arg1) = m' ((c.tc : Thread Cert.GlaPRefIdeal.nD Cert.GlaPRefIdeal.τ).loc Cert.GlaPRefIdeal.main_arg1)
          ∧ r.2.mem ((c.tc : Thread Cert.GlaPRefIdeal.nD Cert.GlaPRefIdeal.τ).loc Cert.GlaPRefIdeal.main_arg2) = m' ((c.tc : Thread Cert.GlaPRefIdeal.nD Cert.GlaPRefIdeal.τ).loc Cert.GlaPRefIdeal.main_arg2)
          ∧ r.2.mem ((c.tc : Thread Cert.GlaPRefIdeal.nD Cert.GlaPRefIdeal.τ).loc Cert.GlaPRefIdeal.main_arg3) = m' ((c.tc : Thread Cert.GlaPRefIdeal.nD Cert.GlaPRefIdeal.τ).loc Cert.GlaPRefIdeal.main_arg3)
          ∧ r.2.mem ((c.tc : Thread Cert.GlaPRefIdeal.nD Cert.GlaPRefIdeal.τ).loc Cert.GlaPRefIdeal.main_arg4) = m' ((c.tc : Thread Cert.GlaPRefIdeal.nD Cert.GlaPRefIdeal.τ).loc Cert.GlaPRefIdeal.main_arg4)
          ∧ r.2.mem ((c.tc : Thread Cert.GlaPRefIdeal.nD Cert.GlaPRefIdeal.τ).loc Cert.GlaPRefIdeal.main_arg5) = m' ((c.tc : Thread Cert.GlaPRefIdeal.nD Cert.GlaPRefIdeal.τ).loc Cert.GlaPRefIdeal.main_arg5)
          ∧ r.2.mem ((c.tc : Thread Cert.GlaPRefIdeal.nD Cert.GlaPRefIdeal.τ).loc Cert.GlaPRefIdeal.main_arg6) = m' ((c.tc : Thread Cert.GlaPRefIdeal.nD Cert.GlaPRefIdeal.τ).loc Cert.GlaPRefIdeal.main_arg6))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v1)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v1) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v1) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def Claim : Prop :=
  ∃ (hGla : Cert.Gla.Facts) (hGlaIdeal : Cert.GlaIdeal.Facts) (hGlaRefIdeal : Cert.GlaRefIdeal.Facts) (hMlp : Cert.Mlp.Facts) (hMlpIdeal : Cert.MlpIdeal.Facts) (hMlpRefIdeal : Cert.MlpRefIdeal.Facts) (hQkv : Cert.Qkv.Facts) (hQkvIdeal : Cert.QkvIdeal.Facts) (hQkvRefIdeal : Cert.QkvRefIdeal.Facts) (hHgrnIn : Cert.HgrnIn.Facts) (hHgrnInIdeal : Cert.HgrnInIdeal.Facts) (hHgrnInRefIdeal : Cert.HgrnInRefIdeal.Facts) (hQkvS : Cert.QkvS.Facts) (hQkvSIdeal : Cert.QkvSIdeal.Facts) (hQkvSRefIdeal : Cert.QkvSRefIdeal.Facts) (hMlpS : Cert.MlpS.Facts) (hMlpSIdeal : Cert.MlpSIdeal.Facts) (hMlpSRefIdeal : Cert.MlpSRefIdeal.Facts) (hGlaP : Cert.GlaP.Facts) (hGlaPIdeal : Cert.GlaPIdeal.Facts) (hGlaPRefIdeal : Cert.GlaPRefIdeal.Facts) (hCast : Cert.Cast.Facts) (hCastIdeal : Cert.CastIdeal.Facts) (hCastRefIdeal : Cert.CastRefIdeal.Facts),
    quiescent_Gla (hGla := hGla)
    ∧ quiescent_GlaIdeal (hGlaIdeal := hGlaIdeal)
    ∧ quiescent_GlaRefIdeal (hGlaRefIdeal := hGlaRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Qkv (hQkv := hQkv)
    ∧ quiescent_QkvIdeal (hQkvIdeal := hQkvIdeal)
    ∧ quiescent_QkvRefIdeal (hQkvRefIdeal := hQkvRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_QkvS (hQkvS := hQkvS)
    ∧ quiescent_QkvSIdeal (hQkvSIdeal := hQkvSIdeal)
    ∧ quiescent_QkvSRefIdeal (hQkvSRefIdeal := hQkvSRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_GlaP (hGlaP := hGlaP)
    ∧ quiescent_GlaPIdeal (hGlaPIdeal := hGlaPIdeal)
    ∧ quiescent_GlaPRefIdeal (hGlaPRefIdeal := hGlaPRefIdeal)
    ∧ quiescent_Cast (hCast := hCast)
    ∧ quiescent_CastIdeal (hCastIdeal := hCastIdeal)
    ∧ quiescent_CastRefIdeal (hCastRefIdeal := hCastRefIdeal)
    ∧ preserves_Gla_GlaIdeal
    ∧ algebraic_GlaIdeal_GlaRefIdeal (hGlaIdeal := hGlaIdeal) (hGlaRefIdeal := hGlaRefIdeal)
    ∧ preserves_Mlp_MlpIdeal
    ∧ algebraic_MlpIdeal_MlpRefIdeal (hMlpIdeal := hMlpIdeal) (hMlpRefIdeal := hMlpRefIdeal)
    ∧ preserves_Qkv_QkvIdeal
    ∧ algebraic_QkvIdeal_QkvRefIdeal (hQkvIdeal := hQkvIdeal) (hQkvRefIdeal := hQkvRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_QkvS_QkvSIdeal
    ∧ algebraic_QkvSIdeal_QkvSRefIdeal (hQkvSIdeal := hQkvSIdeal) (hQkvSRefIdeal := hQkvSRefIdeal)
    ∧ preserves_MlpS_MlpSIdeal
    ∧ algebraic_MlpSIdeal_MlpSRefIdeal (hMlpSIdeal := hMlpSIdeal) (hMlpSRefIdeal := hMlpSRefIdeal)
    ∧ preserves_GlaP_GlaPIdeal
    ∧ algebraic_GlaPIdeal_GlaPRefIdeal (hGlaPIdeal := hGlaPIdeal) (hGlaPRefIdeal := hGlaPRefIdeal)
    ∧ preserves_Cast_CastIdeal
    ∧ algebraic_CastIdeal_CastRefIdeal (hCastIdeal := hCastIdeal) (hCastRefIdeal := hCastRefIdeal)
-- ==== Gla.lean ====
abbrev S32x4x1024 : Shape := ⟨3, ![32, 4, 1024]⟩
abbrev S1024 : Shape := ⟨1, ![1024]⟩
abbrev S32x8x128x128 : Shape := ⟨4, ![32, 8, 128, 128]⟩
abbrev S_ : Shape := ⟨0, ![]⟩
abbrev S32x16x1024 : Shape := ⟨3, ![32, 16, 1024]⟩
abbrev S512x1024 : Shape := ⟨2, ![512, 1024]⟩
abbrev S1x1024 : Shape := ⟨2, ![1, 1024]⟩
abbrev S16x1024 : Shape := ⟨2, ![16, 1024]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x8 : Shape := ⟨2, ![8, 8]⟩
abbrev S8x1024 : Shape := ⟨2, ![8, 1024]⟩
abbrev S8x128 : Shape := ⟨2, ![8, 128]⟩
abbrev S1x128 : Shape := ⟨2, ![1, 128]⟩
abbrev S8 : Shape := ⟨1, ![8]⟩
abbrev S8x1 : Shape := ⟨2, ![8, 1]⟩
abbrev S16x128 : Shape := ⟨2, ![16, 128]⟩

abbrev nBuf : Space → Nat
  | .hbm => 30
  | .vmem => 19
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S32x4x1024, .f32⟩
  | .hbm, ⟨4, _⟩ => ⟨S32x4x1024, .f32⟩
  | .hbm, ⟨5, _⟩ => ⟨S1024, .f32⟩
  | .hbm, ⟨6, _⟩ => ⟨S32x8x128x128, .f32⟩
  | .hbm, ⟨7, _⟩ => ⟨S_, .i32⟩
  | .hbm, ⟨8, _⟩ => ⟨S_, .f32⟩
  | .hbm, ⟨9, _⟩ => ⟨S32x16x1024, .f32⟩
  | .hbm, ⟨10, _⟩ => ⟨S512x1024, .f32⟩
  | .hbm, ⟨11, _⟩ => ⟨S_, .i32⟩
  | .hbm, ⟨12, _⟩ => ⟨S_, .f32⟩
  | .hbm, ⟨13, _⟩ => ⟨S32x16x1024, .f32⟩
  | .hbm, ⟨14, _⟩ => ⟨S512x1024, .f32⟩
  | .hbm, ⟨15, _⟩ => ⟨S_, .i32⟩
  | .hbm, ⟨16, _⟩ => ⟨S_, .f32⟩
  | .hbm, ⟨17, _⟩ => ⟨S32x16x1024, .f32⟩
  | .hbm, ⟨18, _⟩ => ⟨S512x1024, .f32⟩
  | .hbm, ⟨19, _⟩ => ⟨S_, .i32⟩
  | .hbm, ⟨20, _⟩ => ⟨S_, .f32⟩
  | .hbm, ⟨21, _⟩ => ⟨S32x16x1024, .f32⟩
  | .hbm, ⟨22, _⟩ => ⟨S512x1024, .f32⟩
  | .hbm, ⟨23, _⟩ => ⟨S_, .i32⟩
  | .hbm, ⟨24, _⟩ => ⟨S_, .f32⟩
  | .hbm, ⟨25, _⟩ => ⟨S32x16x1024, .f32⟩
  | .hbm, ⟨26, _⟩ => ⟨S512x1024, .f32⟩
  | .hbm, ⟨27, _⟩ => ⟨S1x1024, .f32⟩
  | .hbm, ⟨28, _⟩ => ⟨S512x1024, .bf16⟩
  | .hbm, ⟨29, _⟩ => ⟨S32x8x128x128, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S1x1024, .f32⟩
  | .local _ .vmem, ⟨11, _⟩ => ⟨S1x8x128x128, .f32⟩
  | .local _ .vmem, ⟨12, _⟩ => ⟨S1x8x128x128, .f32⟩
  | .local _ .vmem, ⟨13, _⟩ => ⟨S16x1024, .bf16⟩
  | .local _ .vmem, ⟨14, _⟩ => ⟨S16x1024, .bf16⟩
  | .local _ .vmem, ⟨15, _⟩ => ⟨S1x8x128x128, .f32⟩
  | .local _ .vmem, ⟨16, _⟩ => ⟨S1x8x128x128, .f32⟩
  | .local _ .vmem, ⟨17, _⟩ => ⟨S8x128x128, .f32⟩
  | .local _ .vmem, ⟨18, _⟩ => ⟨S16x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_call2_v0 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_call4_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_490 : BitVec 32 := 0#32
  let v1098 : BitVec 1 := Scalar.cmpi .eq arg1 c0_i32_490
  let v1099 : BitVec 32 := Scalar.extui v1098
  let c0_i32_491 : BitVec 32 := 0#32
  let v1100 : BitVec 1 := Scalar.cmpi .ne v1099 c0_i32_491
  v1100

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaIdeal.lean ====
variable {F : FTy → Type} [FloatOps F] [Named F]
def κ : String → Option EReal := fun
  | "log2e" => some (((Real.log 2)⁻¹ : ℝ) : EReal)
  | _ => none
-- ==== GlaRefIdeal.lean ====
abbrev S32x4x1024 : Shape := ⟨3, ![32, 4, 1024]⟩
abbrev S1024 : Shape := ⟨1, ![1024]⟩
abbrev S32x8x128x128 : Shape := ⟨4, ![32, 8, 128, 128]⟩
abbrev S32x4x8x128 : Shape := ⟨4, ![32, 4, 8, 128]⟩
abbrev S32x8x4x128 : Shape := ⟨4, ![32, 8, 4, 128]⟩
abbrev S_ : Shape := ⟨0, ![]⟩
abbrev S4x4 : Shape := ⟨2, ![4, 4]⟩
abbrev S4x4x1 : Shape := ⟨3, ![4, 4, 1]⟩
abbrev S32x8x4x1x128 : Shape := ⟨5, ![32, 8, 4, 1, 128]⟩
abbrev S32x8x1x4x128 : Shape := ⟨5, ![32, 8, 1, 4, 128]⟩
abbrev S32x8x4x4x128 : Shape := ⟨5, ![32, 8, 4, 4, 128]⟩
abbrev S32x8x4x4 : Shape := ⟨4, ![32, 8, 4, 4]⟩
abbrev S32x8x1x128 : Shape := ⟨4, ![32, 8, 1, 128]⟩
abbrev S32x8x128 : Shape := ⟨3, ![32, 8, 128]⟩
abbrev S32x8x128x1 : Shape := ⟨4, ![32, 8, 128, 1]⟩
abbrev S32x8x4 : Shape := ⟨3, ![32, 8, 4]⟩
abbrev S32x8x4x1 : Shape := ⟨4, ![32, 8, 4, 1]⟩
abbrev S8x128 : Shape := ⟨2, ![8, 128]⟩
abbrev S1x8x1x128 : Shape := ⟨4, ![1, 8, 1, 128]⟩
abbrev S32x16x1024 : Shape := ⟨3, ![32, 16, 1024]⟩
abbrev S512x1024 : Shape := ⟨2, ![512, 1024]⟩

abbrev nBuf : Space → Nat
  | .hbm => 91
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x4x1024, .f32⟩
  | .hbm, ⟨3, _⟩ => ⟨S32x4x1024, .f32⟩
  | .hbm, ⟨4, _⟩ => ⟨S32x4x1024, .f32⟩
  | .hbm, ⟨5, _⟩ => ⟨S1024, .f32⟩
  | .hbm, ⟨6, _⟩ => ⟨S32x8x128x128, .f32⟩
  | .hbm, ⟨7, _⟩ => ⟨S32x4x8x128, .f32⟩
  | .hbm, ⟨8, _⟩ => ⟨S32x8x4x128, .f32⟩
  | .hbm, ⟨9, _⟩ => ⟨S32x4x8x128, .f32⟩
  | .hbm, ⟨10, _⟩ => ⟨S32x8x4x128, .f32⟩
  | .hbm, ⟨11, _⟩ => ⟨S32x4x8x128, .f32⟩
  | .hbm, ⟨12, _⟩ => ⟨S32x8x4x128, .f32⟩
  | .hbm, ⟨13, _⟩ => ⟨S32x4x8x128, .f32⟩
  | .hbm, ⟨14, _⟩ => ⟨S32x8x4x128, .f32⟩
  | .hbm, ⟨15, _⟩ => ⟨S_, .f32⟩
  | .hbm, ⟨16, _⟩ => ⟨S_, .f32⟩
  | .hbm, ⟨17, _⟩ => ⟨S32x8x4x128, .f32⟩
  | .hbm, ⟨18, _⟩ => ⟨S32x8x4x128, .f32⟩
  | .hbm, ⟨19, _⟩ => ⟨S32x8x4x128, .f32⟩
  | .hbm, ⟨20, _⟩ => ⟨S32x8x4x128, .f32⟩
  | .hbm, ⟨21, _⟩ => ⟨S_, .i1⟩
  | .hbm, ⟨22, _⟩ => ⟨S4x4, .i1⟩
  | .hbm, ⟨23, _⟩ => ⟨S4x4, .i32⟩
  | .hbm, ⟨24, _⟩ => ⟨S_, .i32⟩
  | .hbm, ⟨25, _⟩ => ⟨S4x4, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S_, .i1⟩
  | .hbm, ⟨30, _⟩ => ⟨S4x4, .i1⟩
  | .hbm, ⟨31, _⟩ => ⟨S4x4, .i1⟩
  | .hbm, ⟨32, _⟩ => ⟨S4x4x1, .i1⟩
  | .hbm, ⟨33, _⟩ => ⟨S32x8x4x1x128, .f32⟩
  | .hbm, ⟨34, _⟩ => ⟨S32x8x1x4x128, .f32⟩
  | .hbm, ⟨35, _⟩ => ⟨S32x8x4x4x128, .f32⟩
  | .hbm, ⟨36, _⟩ => ⟨S32x8x4x4x128, .f32⟩
  | .hbm, ⟨37, _⟩ => ⟨S32x8x4x4x128, .f32⟩
  | .hbm, ⟨38, _⟩ => ⟨S_, .f32⟩
  | .hbm, ⟨39, _⟩ => ⟨S_, .f32⟩
  | .hbm, ⟨40, _⟩ => ⟨S32x8x4x4x128, .i1⟩
  | .hbm, ⟨41, _⟩ => ⟨S32x8x4x4x128, .f32⟩
  | .hbm, ⟨42, _⟩ => ⟨S32x8x4x4x128, .f32⟩
  | .hbm, ⟨43, _⟩ => ⟨S32x8x4x4x128, .f32⟩
  | .hbm, ⟨44, _⟩ => ⟨S32x8x4x1x128, .f32⟩
  | .hbm, ⟨45, _⟩ => ⟨S32x8x1x4x128, .f32⟩
  | .hbm, ⟨46, _⟩ => ⟨S32x8x4x4x128, .f32⟩
  | .hbm, ⟨47, _⟩ => ⟨S32x8x4x4x128, .f32⟩
  | .hbm, ⟨48, _⟩ => ⟨S32x8x4x4x128, .f32⟩
  | .hbm, ⟨49, _⟩ => ⟨S32x8x4x4x128, .f32⟩
  | .hbm, ⟨50, _⟩ => ⟨S_, .f32⟩
  | .hbm, ⟨51, _⟩ => ⟨S32x8x4x4, .f32⟩
  | .hbm, ⟨52, _⟩ => ⟨S32x8x4x128, .f32⟩
  | .hbm, ⟨53, _⟩ => ⟨S32x8x4x128, .f32⟩
  | .hbm, ⟨54, _⟩ => ⟨S32x8x1x128, .f32⟩
  | .hbm, ⟨55, _⟩ => ⟨S32x8x128, .f32⟩
  | .hbm, ⟨56, _⟩ => ⟨S32x8x128x1, .f32⟩
  | .hbm, ⟨57, _⟩ => ⟨S32x8x128x1, .f32⟩
  | .hbm, ⟨58, _⟩ => ⟨S32x8x128x128, .f32⟩
  | .hbm, ⟨59, _⟩ => ⟨S32x8x128x128, .f32⟩
  | .hbm, ⟨60, _⟩ => ⟨S32x8x4x128, .f32⟩
  | .hbm, ⟨61, _⟩ => ⟨S32x8x4x128, .f32⟩
  | .hbm, ⟨62, _⟩ => ⟨S32x8x4x128, .f32⟩
  | .hbm, ⟨63, _⟩ => ⟨S32x8x4x128, .f32⟩
  | .hbm, ⟨64, _⟩ => ⟨S32x8x128x128, .f32⟩
  | .hbm, ⟨65, _⟩ => ⟨S32x8x128x128, .f32⟩
  | .hbm, ⟨66, _⟩ => ⟨S32x8x4x128, .f32⟩
  | .hbm, ⟨67, _⟩ => ⟨S_, .f32⟩
  | .hbm, ⟨68, _⟩ => ⟨S32x8x4, .f32⟩
  | .hbm, ⟨69, _⟩ => ⟨S32x8x4x1, .f32⟩
  | .hbm, ⟨70, _⟩ => ⟨S_, .f32⟩
  | .hbm, ⟨71, _⟩ => ⟨S32x8x4x1, .f32⟩
  | .hbm, ⟨72, _⟩ => ⟨S32x8x4x1, .f32⟩
  | .hbm, ⟨73, _⟩ => ⟨S_, .f32⟩
  | .hbm, ⟨74, _⟩ => ⟨S32x8x4x1, .f32⟩
  | .hbm, ⟨75, _⟩ => ⟨S32x8x4x1, .f32⟩
  | .hbm, ⟨76, _⟩ => ⟨S32x8x4x1, .f32⟩
  | .hbm, ⟨77, _⟩ => ⟨S32x8x4x128, .f32⟩
  | .hbm, ⟨78, _⟩ => ⟨S32x8x4x128, .f32⟩
  | .hbm, ⟨79, _⟩ => ⟨S8x128, .f32⟩
  | .hbm, ⟨80, _⟩ => ⟨S1x8x1x128, .f32⟩
  | .hbm, ⟨81, _⟩ => ⟨S32x8x4x128, .f32⟩
  | .hbm, ⟨82, _⟩ => ⟨S32x8x4x128, .f32⟩
  | .hbm, ⟨83, _⟩ => ⟨S32x4x8x128, .f32⟩
  | .hbm, ⟨84, _⟩ => ⟨S32x4x1024, .f32⟩
  | .hbm, ⟨85, _⟩ => ⟨S32x4x1024, .f32⟩
  | .hbm, ⟨86, _⟩ => ⟨S_, .i32⟩
  | .hbm, ⟨87, _⟩ => ⟨S_, .f32⟩
  | .hbm, ⟨88, _⟩ => ⟨S32x16x1024, .f32⟩
  | .hbm, ⟨89, _⟩ => ⟨S512x1024, .f32⟩
  | .hbm, ⟨90, _⟩ => ⟨S512x1024, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_call0_cst : Ref sig .tc := ⟨.hbm, 15, rfl⟩
abbrev main_call0_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_0 : Ref sig .tc := ⟨.hbm, 29, rfl⟩
abbrev main_call1_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_1 : Ref sig .tc := ⟨.hbm, 67, rfl⟩
abbrev main_v44 : Ref sig .tc := ⟨.hbm, 68, rfl⟩
abbrev main_v45 : Ref sig .tc := ⟨.hbm, 69, rfl⟩
abbrev main_cst_2 : Ref sig .tc := ⟨.hbm, 70, rfl⟩
abbrev main_v46 : Ref sig .tc := ⟨.hbm, 71, rfl⟩
abbrev main_v47 : Ref sig .tc := ⟨.hbm, 72, rfl⟩
abbrev main_cst_3 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_4 : Ref sig .tc := ⟨.hbm, 86, rfl⟩
abbrev main_call3_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== Mlp.lean ====
abbrev S16384x1024 : Shape := ⟨2, ![16384, 1024]⟩
abbrev S1024x1024 : Shape := ⟨2, ![1024, 1024]⟩
abbrev S1024 : Shape := ⟨1, ![1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S1x1024x1024 : Shape := ⟨3, ![1, 1024, 1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1024, .f32⟩
  | .hbm, ⟨4, _⟩ => ⟨S2x1024x4096, .bf16⟩
  | .hbm, ⟨5, _⟩ => ⟨S2x4096x1024, .bf16⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S16384x1024 : Shape := ⟨2, ![16384, 1024]⟩
abbrev S1024x1024 : Shape := ⟨2, ![1024, 1024]⟩
abbrev S1024 : Shape := ⟨1, ![1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1024, .f32⟩
  | .hbm, ⟨4, _⟩ => ⟨S2x1024x4096, .bf16⟩
  | .hbm, ⟨5, _⟩ => ⟨S2x4096x1024, .bf16⟩
  | .hbm, ⟨6, _⟩ => ⟨S1024, .f32⟩
  | .hbm, ⟨7, _⟩ => ⟨S1x1024x4096, .bf16⟩
  | .hbm, ⟨8, _⟩ => ⟨S1024x4096, .bf16⟩
  | .hbm, ⟨9, _⟩ => ⟨S1x4096x1024, .bf16⟩
  | .hbm, ⟨10, _⟩ => ⟨S4096x1024, .bf16⟩
  | .hbm, ⟨11, _⟩ => ⟨S16384x1024, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Qkv.lean ====
abbrev S2x8192x1024 : Shape := ⟨3, ![2, 8192, 1024]⟩
abbrev S2x1024 : Shape := ⟨2, ![2, 1024]⟩
abbrev S1x1024x3072 : Shape := ⟨3, ![1, 1024, 3072]⟩
abbrev S16384x1024 : Shape := ⟨2, ![16384, 1024]⟩
abbrev S1x1024 : Shape := ⟨2, ![1, 1024]⟩
abbrev S1024 : Shape := ⟨1, ![1024]⟩
abbrev S1024x3072 : Shape := ⟨2, ![1024, 3072]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3072, .bf16⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S1024x3072, .bf16⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QkvRefIdeal.lean ====
abbrev S2x8192x1024 : Shape := ⟨3, ![2, 8192, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S2x8192x3x1024 : Shape := ⟨4, ![2, 8192, 3, 1024]⟩
abbrev S2x8192x1x1024 : Shape := ⟨4, ![2, 8192, 1, 1024]⟩
abbrev S16384x1024 : Shape := ⟨2, ![16384, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024x3072, .bf16⟩
  | .hbm, ⟨3, _⟩ => ⟨S1x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x3072, .bf16⟩
  | .hbm, ⟨22, _⟩ => ⟨S1024x3072, .f32⟩
  | .hbm, ⟨23, _⟩ => ⟨S2x8192x3072, .f32⟩
  | .hbm, ⟨24, _⟩ => ⟨S2x8192x3x1024, .f32⟩
  | .hbm, ⟨25, _⟩ => ⟨S2x8192x1x1024, .f32⟩
  | .hbm, ⟨26, _⟩ => ⟨S2x8192x1024, .f32⟩
  | .hbm, ⟨27, _⟩ => ⟨S2x8192x1x1024, .f32⟩
  | .hbm, ⟨28, _⟩ => ⟨S2x8192x1024, .f32⟩
  | .hbm, ⟨29, _⟩ => ⟨S2x8192x1x1024, .f32⟩
  | .hbm, ⟨30, _⟩ => ⟨S2x8192x1024, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== HgrnIn.lean ====
abbrev S16384x1024 : Shape := ⟨2, ![16384, 1024]⟩
abbrev S2x1024 : Shape := ⟨2, ![2, 1024]⟩
abbrev S1x1024x4096 : Shape := ⟨3, ![1, 1024, 4096]⟩
abbrev S1x1024 : Shape := ⟨2, ![1, 1024]⟩
abbrev S1024 : Shape := ⟨1, ![1024]⟩
abbrev S1024x4096 : Shape := ⟨2, ![1024, 4096]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x4096, .bf16⟩
  | .hbm, ⟨3, _⟩ => ⟨S2x1024, .f32⟩
  | .hbm, ⟨4, _⟩ => ⟨S1x1024, .f32⟩
  | .hbm, ⟨5, _⟩ => ⟨S1024, .f32⟩
  | .hbm, ⟨6, _⟩ => ⟨S1024x4096, .bf16⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S2x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgrnInRefIdeal.lean ====
abbrev S16384x1024 : Shape := ⟨2, ![16384, 1024]⟩
abbrev S2x1024 : Shape := ⟨2, ![2, 1024]⟩
abbrev S1x1024x4096 : Shape := ⟨3, ![1, 1024, 4096]⟩
abbrev S_ : Shape := ⟨0, ![]⟩
abbrev S1024 : Shape := ⟨1, ![1024]⟩
abbrev S1x1024 : Shape := ⟨2, ![1, 1024]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x4096, .bf16⟩
  | .hbm, ⟨3, _⟩ => ⟨S2x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S1024, .f32⟩
  | .hbm, ⟨15, _⟩ => ⟨S1x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S_, .f32⟩
  | .hbm, ⟨20, _⟩ => ⟨S2x1024, .f32⟩
  | .hbm, ⟨21, _⟩ => ⟨S1x1024, .f32⟩
  | .hbm, ⟨22, _⟩ => ⟨S2x1024, .f32⟩
  | .hbm, ⟨23, _⟩ => ⟨S2x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S1024x4096, .bf16⟩
  | .hbm, ⟨45, _⟩ => ⟨S1024x4096, .f32⟩
  | .hbm, ⟨46, _⟩ => ⟨S16384x4096, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384x1024, .f32⟩
  | .hbm, ⟨91, _⟩ => ⟨S16384x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== QkvS.lean ====
abbrev S32x4x1024 : Shape := ⟨3, ![32, 4, 1024]⟩
abbrev S2x1024 : Shape := ⟨2, ![2, 1024]⟩
abbrev S1x1024x3072 : Shape := ⟨3, ![1, 1024, 3072]⟩
abbrev S_ : Shape := ⟨0, ![]⟩
abbrev S32x16x1024 : Shape := ⟨3, ![32, 16, 1024]⟩
abbrev S512x1024 : Shape := ⟨2, ![512, 1024]⟩
abbrev S1x1024 : Shape := ⟨2, ![1, 1024]⟩
abbrev S1024 : Shape := ⟨1, ![1024]⟩
abbrev S1024x3072 : Shape := ⟨2, ![1024, 3072]⟩
abbrev S512 : Shape := ⟨1, ![512]⟩
abbrev S512x1 : Shape := ⟨2, ![512, 1]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x3072, .bf16⟩
  | .hbm, ⟨3, _⟩ => ⟨S_, .i32⟩
  | .hbm, ⟨4, _⟩ => ⟨S_, .f32⟩
  | .hbm, ⟨5, _⟩ => ⟨S32x16x1024, .f32⟩
  | .hbm, ⟨6, _⟩ => ⟨S512x1024, .f32⟩
  | .hbm, ⟨7, _⟩ => ⟨S1x1024, .f32⟩
  | .hbm, ⟨8, _⟩ => ⟨S1024, .f32⟩
  | .hbm, ⟨9, _⟩ => ⟨S1024x3072, .bf16⟩
  | .hbm, ⟨10, _⟩ => ⟨S1x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== QkvSRefIdeal.lean ====
abbrev S32x4x1024 : Shape := ⟨3, ![32, 4, 1024]⟩
abbrev S2x1024 : Shape := ⟨2, ![2, 1024]⟩
abbrev S1x1024x3072 : Shape := ⟨3, ![1, 1024, 3072]⟩
abbrev S1x1024 : Shape := ⟨2, ![1, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S1024x3072 : Shape := ⟨2, ![1024, 3072]⟩
abbrev S32x4x3072 : Shape := ⟨3, ![32, 4, 3072]⟩
abbrev S32x4x3x1024 : Shape := ⟨4, ![32, 4, 3, 1024]⟩
abbrev S32x4x1x1024 : Shape := ⟨4, ![32, 4, 1, 1024]⟩
abbrev S32x16x1024 : Shape := ⟨3, ![32, 16, 1024]⟩
abbrev S512x1024 : Shape := ⟨2, ![512, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S2x1024, .f32⟩
  | .hbm, ⟨2, _⟩ => ⟨S1x1024x3072, .bf16⟩
  | .hbm, ⟨3, _⟩ => ⟨S1x1024, .f32⟩
  | .hbm, ⟨4, _⟩ => ⟨S1024, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S1024x3072, .bf16⟩
  | .hbm, ⟨22, _⟩ => ⟨S1024x3072, .f32⟩
  | .hbm, ⟨23, _⟩ => ⟨S32x4x3072, .f32⟩
  | .hbm, ⟨24, _⟩ => ⟨S32x4x3x1024, .f32⟩
  | .hbm, ⟨25, _⟩ => ⟨S32x4x1x1024, .f32⟩
  | .hbm, ⟨26, _⟩ => ⟨S32x4x1024, .f32⟩
  | .hbm, ⟨27, _⟩ => ⟨S_, .i32⟩
  | .hbm, ⟨28, _⟩ => ⟨S_, .f32⟩
  | .hbm, ⟨29, _⟩ => ⟨S32x16x1024, .f32⟩
  | .hbm, ⟨30, _⟩ => ⟨S512x1024, .f32⟩
  | .hbm, ⟨31, _⟩ => ⟨S32x4x1x1024, .f32⟩
  | .hbm, ⟨32, _⟩ => ⟨S32x4x1024, .f32⟩
  | .hbm, ⟨33, _⟩ => ⟨S_, .i32⟩
  | .hbm, ⟨34, _⟩ => ⟨S_, .f32⟩
  | .hbm, ⟨35, _⟩ => ⟨S32x16x1024, .f32⟩
  | .hbm, ⟨36, _⟩ => ⟨S512x1024, .f32⟩
  | .hbm, ⟨37, _⟩ => ⟨S32x4x1x1024, .f32⟩
  | .hbm, ⟨38, _⟩ => ⟨S32x4x1024, .f32⟩
  | .hbm, ⟨39, _⟩ => ⟨S_, .i32⟩
  | .hbm, ⟨40, _⟩ => ⟨S_, .f32⟩
  | .hbm, ⟨41, _⟩ => ⟨S32x16x1024, .f32⟩
  | .hbm, ⟨42, _⟩ => ⟨S512x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_call1_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_call2_v0 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== MlpS.lean ====
abbrev S32x4x1024 : Shape := ⟨3, ![32, 4, 1024]⟩
abbrev S1024x1024 : Shape := ⟨2, ![1024, 1024]⟩
abbrev S1024 : Shape := ⟨1, ![1024]⟩
abbrev S2x1024x4096 : Shape := ⟨3, ![2, 1024, 4096]⟩
abbrev S2x4096x1024 : Shape := ⟨3, ![2, 4096, 1024]⟩
abbrev S_ : Shape := ⟨0, ![]⟩
abbrev S32x16x1024 : Shape := ⟨3, ![32, 16, 1024]⟩
abbrev S512x1024 : Shape := ⟨2, ![512, 1024]⟩
abbrev S1x1024 : Shape := ⟨2, ![1, 1024]⟩
abbrev S1x1024x1024 : Shape := ⟨3, ![1, 1024, 1024]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .bf16⟩
  | .hbm, ⟨2, _⟩ => ⟨S1024x1024, .bf16⟩
  | .hbm, ⟨3, _⟩ => ⟨S1024, .f32⟩
  | .hbm, ⟨4, _⟩ => ⟨S2x1024x4096, .bf16⟩
  | .hbm, ⟨5, _⟩ => ⟨S2x4096x1024, .bf16⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S32x16x1024, .f32⟩
  | .hbm, ⟨10, _⟩ => ⟨S512x1024, .f32⟩
  | .hbm, ⟨11, _⟩ => ⟨S_, .i32⟩
  | .hbm, ⟨12, _⟩ => ⟨S_, .bf16⟩
  | .hbm, ⟨13, _⟩ => ⟨S32x16x1024, .bf16⟩
  | .hbm, ⟨14, _⟩ => ⟨S512x1024, .bf16⟩
  | .hbm, ⟨15, _⟩ => ⟨S1x1024, .f32⟩
  | .hbm, ⟨16, _⟩ => ⟨S1x1024, .f32⟩
  | .hbm, ⟨17, _⟩ => ⟨S512x1024, .f32⟩
  | .local _ .vmem, ⟨0, _⟩ => ⟨S512x1024, .f32⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== MlpSRefIdeal.lean ====
abbrev S32x4x1024 : Shape := ⟨3, ![32, 4, 1024]⟩
abbrev S1024x1024 : Shape := ⟨2, ![1024, 1024]⟩
abbrev S1024 : Shape := ⟨1, ![1024]⟩
abbrev S2x1024x4096 : Shape := ⟨3, ![2, 1024, 4096]⟩
abbrev S2x4096x1024 : Shape := ⟨3, ![2, 4096, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x4096 : Shape := ⟨3, ![32, 4, 4096]⟩
abbrev S32x16x1024 : Shape := ⟨3, ![32, 16, 1024]⟩
abbrev S512x1024 : Shape := ⟨2, ![512, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .bf16⟩
  | .hbm, ⟨2, _⟩ => ⟨S1024x1024, .bf16⟩
  | .hbm, ⟨3, _⟩ => ⟨S1024, .f32⟩
  | .hbm, ⟨4, _⟩ => ⟨S2x1024x4096, .bf16⟩
  | .hbm, ⟨5, _⟩ => ⟨S2x4096x1024, .bf16⟩
  | .hbm, ⟨6, _⟩ => ⟨S1024, .f32⟩
  | .hbm, ⟨7, _⟩ => ⟨S1x1024x4096, .bf16⟩
  | .hbm, ⟨8, _⟩ => ⟨S1024x4096, .bf16⟩
  | .hbm, ⟨9, _⟩ => ⟨S1x4096x1024, .bf16⟩
  | .hbm, ⟨10, _⟩ => ⟨S4096x1024, .bf16⟩
  | .hbm, ⟨11, _⟩ => ⟨S32x4x1024, .f32⟩
  | .hbm, ⟨12, _⟩ => ⟨S1024x1024, .f32⟩
  | .hbm, ⟨13, _⟩ => ⟨S1024x4096, .f32⟩
  | .hbm, ⟨14, _⟩ => ⟨S4096x1024, .f32⟩
  | .hbm, ⟨15, _⟩ => ⟨S32x4x1024, .f32⟩
  | .hbm, ⟨16, _⟩ => ⟨S32x4x1024, .f32⟩
  | .hbm, ⟨17, _⟩ => ⟨S32x4x1024, .f32⟩
  | .hbm, ⟨18, _⟩ => ⟨S_, .f32⟩
  | .hbm, ⟨19, _⟩ => ⟨S32x4, .f32⟩
  | .hbm, ⟨20, _⟩ => ⟨S32x4x1, .f32⟩
  | .hbm, ⟨21, _⟩ => ⟨S_, .f32⟩
  | .hbm, ⟨22, _⟩ => ⟨S32x4x1, .f32⟩
  | .hbm, ⟨23, _⟩ => ⟨S32x4x1, .f32⟩
  | .hbm, ⟨24, _⟩ => ⟨S_, .f32⟩
  | .hbm, ⟨25, _⟩ => ⟨S32x4x1, .f32⟩
  | .hbm, ⟨26, _⟩ => ⟨S32x4x1, .f32⟩
  | .hbm, ⟨27, _⟩ => ⟨S32x4x1, .f32⟩
  | .hbm, ⟨28, _⟩ => ⟨S32x4x1024, .f32⟩
  | .hbm, ⟨29, _⟩ => ⟨S32x4x1024, .f32⟩
  | .hbm, ⟨30, _⟩ => ⟨S1x1x1024, .f32⟩
  | .hbm, ⟨31, _⟩ => ⟨S32x4x1024, .f32⟩
  | .hbm, ⟨32, _⟩ => ⟨S32x4x1024, .f32⟩
  | .hbm, ⟨33, _⟩ => ⟨S32x4x4096, .f32⟩
  | .hbm, ⟨34, _⟩ => ⟨S_, .f32⟩
  | .hbm, ⟨35, _⟩ => ⟨S32x4x4096, .f32⟩
  | .hbm, ⟨36, _⟩ => ⟨S32x4x4096, .f32⟩
  | .hbm, ⟨37, _⟩ => ⟨S32x4x4096, .f32⟩
  | .hbm, ⟨38, _⟩ => ⟨S32x4x1024, .f32⟩
  | .hbm, ⟨39, _⟩ => ⟨S32x4x1024, .f32⟩
  | .hbm, ⟨40, _⟩ => ⟨S32x4x1024, .f32⟩
  | .hbm, ⟨41, _⟩ => ⟨S_, .f32⟩
  | .hbm, ⟨42, _⟩ => ⟨S32x4, .f32⟩
  | .hbm, ⟨43, _⟩ => ⟨S32x4x1, .f32⟩
  | .hbm, ⟨44, _⟩ => ⟨S_, .f32⟩
  | .hbm, ⟨45, _⟩ => ⟨S32x4x1, .f32⟩
  | .hbm, ⟨46, _⟩ => ⟨S32x4x1, .f32⟩
  | .hbm, ⟨47, _⟩ => ⟨S_, .f32⟩
  | .hbm, ⟨48, _⟩ => ⟨S32x4x1, .f32⟩
  | .hbm, ⟨49, _⟩ => ⟨S32x4x1, .f32⟩
  | .hbm, ⟨50, _⟩ => ⟨S32x4x1, .f32⟩
  | .hbm, ⟨51, _⟩ => ⟨S32x4x1024, .f32⟩
  | .hbm, ⟨52, _⟩ => ⟨S32x4x1024, .f32⟩
  | .hbm, ⟨53, _⟩ => ⟨S1x1x1024, .f32⟩
  | .hbm, ⟨54, _⟩ => ⟨S32x4x1024, .f32⟩
  | .hbm, ⟨55, _⟩ => ⟨S32x4x1024, .f32⟩
  | .hbm, ⟨56, _⟩ => ⟨S_, .i32⟩
  | .hbm, ⟨57, _⟩ => ⟨S_, .f32⟩
  | .hbm, ⟨58, _⟩ => ⟨S32x16x1024, .f32⟩
  | .hbm, ⟨59, _⟩ => ⟨S512x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_call1_v0 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== GlaP.lean ====
abbrev S16384x1024 : Shape := ⟨2, ![16384, 1024]⟩
abbrev S1024 : Shape := ⟨1, ![1024]⟩
abbrev S2x8x128x128 : Shape := ⟨4, ![2, 8, 128, 128]⟩
abbrev S1x1024 : Shape := ⟨2, ![1, 1024]⟩
abbrev S64x1024 : Shape := ⟨2, ![64, 1024]⟩
abbrev S1x8x128x128 : Shape := ⟨4, ![1, 8, 128, 128]⟩
abbrev S8x128x128 : Shape := ⟨3, ![8, 128, 128]⟩
abbrev S1x1x128x128 : Shape := ⟨4, ![1, 1, 128, 128]⟩
abbrev S128x128 : Shape := ⟨2, ![128, 128]⟩
abbrev S1x128x128 : Shape := ⟨3, ![1, 128, 128]⟩
abbrev S64x64 : Shape := ⟨2, ![64, 64]⟩
abbrev S8x128 : Shape := ⟨2, ![8, 128]⟩
abbrev S64x128 : Shape := ⟨2, ![64, 128]⟩
abbrev S1x128 : Shape := ⟨2, ![1, 128]⟩
abbrev S56x128 : Shape := ⟨2, ![56, 128]⟩
abbrev S16x128 : Shape := ⟨2, ![16, 128]⟩
abbrev S48x128 : Shape := ⟨2, ![48, 128]⟩
abbrev S24x128 : Shape := ⟨2, ![24, 128]⟩
abbrev S40x128 : Shape := ⟨2, ![40, 128]⟩
abbrev S32x128 : Shape := ⟨2, ![32, 128]⟩
abbrev S64x896 : Shape := ⟨2, ![64, 896]⟩
abbrev S8 : Shape := ⟨1, ![8]⟩
abbrev S8x1 : Shape := ⟨2, ![8, 1]⟩
abbrev S64 : Shape := ⟨1, ![64]⟩
abbrev S64x1 : Shape := ⟨2, ![64, 1]⟩

abbrev nBuf : Space → Nat
  | .hbm => 10
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S2x8x128x128, .f32⟩
  | .hbm, ⟨7, _⟩ => ⟨S1x1024, .f32⟩
  | .hbm, ⟨8, _⟩ => ⟨S16384x1024, .bf16⟩
  | .hbm, ⟨9, _⟩ => ⟨S2x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S1x1024, .f32⟩
  | .local _ .vmem, ⟨11, _⟩ => ⟨S1x8x128x128, .f32⟩
  | .local _ .vmem, ⟨12, _⟩ => ⟨S1x8x128x128, .f32⟩
  | .local _ .vmem, ⟨13, _⟩ => ⟨S64x1024, .bf16⟩
  | .local _ .vmem, ⟨14, _⟩ => ⟨S64x1024, .bf16⟩
  | .local _ .vmem, ⟨15, _⟩ => ⟨S1x8x128x128, .f32⟩
  | .local _ .vmem, ⟨16, _⟩ => ⟨S1x8x128x128, .f32⟩
  | .local _ .vmem, ⟨17, _⟩ => ⟨S8x128x128, .f32⟩
  | .local _ .vmem, ⟨18, _⟩ => ⟨S64x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v10409 : BitVec 1 := Scalar.cmpi .eq arg1 c127_i32
  let v10410 : BitVec 32 := Scalar.extui v10409
  let c0_i32_4642 : BitVec 32 := 0#32
  let v10411 : BitVec 1 := Scalar.cmpi .ne v10410 c0_i32_4642
  v10411

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaPIdeal.lean ====
variable {F : FTy → Type} [FloatOps F] [Named F]
def κ : String → Option EReal := fun
  | "log2e" => some (((Real.log 2)⁻¹ : ℝ) : EReal)
  | _ => none
-- ==== GlaPRefIdeal.lean ====
abbrev S16384x1024 : Shape := ⟨2, ![16384, 1024]⟩
abbrev S1024 : Shape := ⟨1, ![1024]⟩
abbrev S2x8x128x128 : Shape := ⟨4, ![2, 8, 128, 128]⟩
abbrev S2x128x64x8x128 : Shape := ⟨5, ![2, 128, 64, 8, 128]⟩
abbrev S128x2x8x64x128 : Shape := ⟨5, ![128, 2, 8, 64, 128]⟩
abbrev S_ : Shape := ⟨0, ![]⟩
abbrev S1x2x8x64x128 : Shape := ⟨5, ![1, 2, 8, 64, 128]⟩
abbrev S2x8x64x128 : Shape := ⟨4, ![2, 8, 64, 128]⟩
abbrev S2x8x1x128 : Shape := ⟨4, ![2, 8, 1, 128]⟩
abbrev S2x8x128 : Shape := ⟨3, ![2, 8, 128]⟩
abbrev S2x8x128x1 : Shape := ⟨4, ![2, 8, 128, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S2x8x128x128, .f32⟩
  | .hbm, ⟨7, _⟩ => ⟨S2x128x64x8x128, .f32⟩
  | .hbm, ⟨8, _⟩ => ⟨S128x2x8x64x128, .f32⟩
  | .hbm, ⟨9, _⟩ => ⟨S2x128x64x8x128, .f32⟩
  | .hbm, ⟨10, _⟩ => ⟨S128x2x8x64x128, .f32⟩
  | .hbm, ⟨11, _⟩ => ⟨S2x128x64x8x128, .f32⟩
  | .hbm, ⟨12, _⟩ => ⟨S128x2x8x64x128, .f32⟩
  | .hbm, ⟨13, _⟩ => ⟨S_, .i32⟩
  | .hbm, ⟨14, _⟩ => ⟨S128x2x8x64x128, .f32⟩
  | .hbm, ⟨15, _⟩ => ⟨S128x2x8x64x128, .f32⟩
  | .hbm, ⟨16, _⟩ => ⟨S128x2x8x64x128, .f32⟩
  | .hbm, ⟨17, _⟩ => ⟨S_, .i32⟩
  | .hbm, ⟨18, _⟩ => ⟨S2x8x128x128, .f32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x2x8x64x128, .f32⟩
  | .hbm, ⟨26, _⟩ => ⟨S2x8x64x128, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x2x8x64x128, .f32⟩
  | .hbm, ⟨32, _⟩ => ⟨S2x8x64x128, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x2x8x64x128, .f32⟩
  | .hbm, ⟨38, _⟩ => ⟨S2x8x64x128, .f32⟩
  | .hbm, ⟨39, _⟩ => ⟨S_, .f32⟩
  | .hbm, ⟨40, _⟩ => ⟨S_, .f32⟩
  | .hbm, ⟨41, _⟩ => ⟨S2x8x64x128, .f32⟩
  | .hbm, ⟨42, _⟩ => ⟨S2x8x1x128, .f32⟩
  | .hbm, ⟨43, _⟩ => ⟨S2x8x128, .f32⟩
  | .hbm, ⟨44, _⟩ => ⟨S2x8x128x1, .f32⟩
  | .hbm, ⟨45, _⟩ => ⟨S2x8x128x1, .f32⟩
  | .hbm, ⟨46, _⟩ => ⟨S2x8x128x128, .f32⟩
  | .hbm, ⟨47, _⟩ => ⟨S2x8x128x128, .f32⟩
  | .hbm, ⟨48, _⟩ => ⟨S2x8x64x128, .f32⟩
  | .hbm, ⟨49, _⟩ => ⟨S2x8x64x128, .f32⟩
  | .hbm, ⟨50, _⟩ => ⟨S2x8x64x128, .f32⟩
  | .hbm, ⟨51, _⟩ => ⟨S2x8x64x128, .f32⟩
  | .hbm, ⟨52, _⟩ => ⟨S2x8x128x128, .f32⟩
  | .hbm, ⟨53, _⟩ => ⟨S2x8x128x128, .f32⟩
  | .hbm, ⟨54, _⟩ => ⟨S_, .i32⟩
  | .hbm, ⟨55, _⟩ => ⟨S_, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_while0c_c_4 : Ref sig .tc := ⟨.hbm, 19, rfl⟩
abbrev main_while0c_v7 : Ref sig .tc := ⟨.hbm, 20, rfl⟩
abbrev main_while0b_call0_c : Ref sig .tc := ⟨.hbm, 21, rfl⟩
abbrev main_while0b_call0_c_0 : Ref sig .tc := ⟨.hbm, 22, rfl⟩
abbrev main_while0b_call0_c_1 : Ref sig .tc := ⟨.hbm, 23, rfl⟩
abbrev main_while0b_call0_c_2 : Ref sig .tc := ⟨.hbm, 24, rfl⟩
abbrev main_while0b_call0_v0 : Ref sig .tc := ⟨.hbm, 25, rfl⟩
abbrev main_while0b_v7 : Ref sig .tc := ⟨.hbm, 26, rfl⟩
abbrev main_while0b_call1_c : Ref sig .tc := ⟨.hbm, 27, rfl⟩
abbrev main_while0b_call1_c_0 : Ref sig .tc := ⟨.hbm, 28, rfl⟩
abbrev main_while0b_call1_c_1 : Ref sig .tc := ⟨.hbm, 29, rfl⟩
abbrev main_while0b_call1_c_2 : Ref sig .tc := ⟨.hbm, 30, rfl⟩
abbrev main_while0b_call1_v0 : Ref sig .tc := ⟨.hbm, 31, rfl⟩
abbrev main_while0b_v8 : Ref sig .tc := ⟨.hbm, 32, rfl⟩
abbrev main_while0b_call2_c : Ref sig .tc := ⟨.hbm, 33, rfl⟩
abbrev main_while0b_call2_c_0 : Ref sig .tc := ⟨.hbm, 34, rfl⟩
abbrev main_while0b_call2_c_1 : Ref sig .tc := ⟨.hbm, 35, rfl⟩
abbrev main_while0b_call2_c_2 : Ref sig .tc := ⟨.hbm, 36, rfl⟩
abbrev main_while0b_call2_v0 : Ref sig .tc := ⟨.hbm, 37, rfl⟩
abbrev main_while0b_v9 : Ref sig .tc := ⟨.hbm, 38, rfl⟩
abbrev main_while0b_call3_call0_cst : Ref sig .tc := ⟨.hbm, 39, rfl⟩
abbrev main_while0b_call3_call0_v0 : Ref sig .tc := ⟨.hbm, 40, rfl⟩
abbrev main_while0b_v10 : Ref sig .tc := ⟨.hbm, 41, rfl⟩
abbrev main_while0b_v11 : Ref sig .tc := ⟨.hbm, 42, rfl⟩
abbrev main_while0b_v12 : Ref sig .tc := ⟨.hbm, 43, rfl⟩
abbrev main_while0b_v13 : Ref sig .tc := ⟨.hbm, 44, rfl⟩
abbrev main_while0b_v14 : Ref sig .tc := ⟨.hbm, 45, rfl⟩
abbrev main_while0b_v15 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_c_4 : Ref sig .tc := ⟨.hbm, 54, rfl⟩
abbrev main_while0b_v23 : Ref sig .tc := ⟨.hbm, 55, rfl⟩

abbrev nD : Nat := 1
abbrev τ : Topo := Topo.v7x

variable {F : FTy → Type} [FloatOps F]

abbrev main_while0_count : Scf.Loop 32 := ⟨0#32, 128#32, 1#32⟩
-- ==== Cast.lean ====
abbrev S1x1024x3072 : Shape := ⟨3, ![1, 1024, 3072]⟩
abbrev S1024x3072 : Shape := ⟨2, ![1024, 3072]⟩
abbrev S1024x1024 : Shape := ⟨2, ![1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x1024x3072, .f32⟩
  | .hbm, ⟨1, _⟩ => ⟨S1024x3072, .f32⟩
  | .hbm, ⟨2, _⟩ => ⟨S1024x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | _, _ => ⟨S1x1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastRefIdeal.lean ====
abbrev S1x1024x3072 : Shape := ⟨3, ![1, 1024, 3072]⟩
abbrev S1024x3072 : Shape := ⟨2, ![1024, 3072]⟩

abbrev nBuf : Space → Nat
  | .hbm => 3
  | .vmem => 0
  | .smem => 0
  | _ => 0

abbrev bufTy : (tb : Table) → Fin (tcTables nBuf tb) → BufTy
  | .hbm, ⟨0, _⟩ => ⟨S1x1024x3072, .f32⟩
  | .hbm, ⟨1, _⟩ => ⟨S1024x3072, .f32⟩
  | .hbm, ⟨2, _⟩ => ⟨S1024x3072, .bf16⟩
  | _, _ => ⟨S1x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Rows.lean ====
/-
  Rows of the layer read as functions on the extended reals: the root-mean-square normalization of one row, and its
  projection by one column of a weight matrix. Both sides of the value claims are read down to these.
-/
module

public import Idealize.ShloMosaic.Lib.Pointwise

@[expose] public section

noncomputable section

namespace Cert.Rows

open Idealize.ShloMosaic

set_option maxRecDepth 16384

/-- The factor that normalizes one row `x` of 1024 numbers: one over the root of the mean square plus the small constant. -/
def scale (x : Fin 1024 → EReal) : EReal :=
  Ideal.rsqrt (Ideal.div (∑ j, x j * x j) (Ideal.ofBits .f32 0x44800000#32) + Ideal.ofBits .f32 0x358637BD#32)

/-- The normalized row `x` with the gains `g`, at column `k`. -/
def norm (x g : Fin 1024 → EReal) (k : Fin 1024) : EReal := x k * scale x * g k

/-- The normalized row times one weight column `w`. -/
def proj (x g w : Fin 1024 → EReal) : EReal := ∑ k, norm x g k * w k

/-- Rows, gains and columns that agree entry by entry project to the same number. -/
theorem proj_congr {x x' g g' w w' : Fin 1024 → EReal} (hx : ∀ k, x k = x' k) (hg : ∀ k, g k = g' k) (hw : ∀ k, w k = w' k) :
    proj x g w = proj x' g' w' := by
  rw [funext hx, funext hg, funext hw]

/-- A row of zeros projects to zero. -/
theorem proj_zero (g w : Fin 1024 → EReal) : proj (fun _ => 0) g w = 0 := by
  simp [proj, norm]

/-- Row `R` of 32 sequences of four rows, each padded with zero rows to sixteen. -/
def stepRow (x : (⟨3, ![32, 4, 1024]⟩ : Shape).Idx → EReal) (R : Fin 512) (k : Fin 1024) : EReal :=
  if h : R.val % 16 < 4 then x (ix3 ⟨R.val / 16, by omega⟩ ⟨R.val % 16, h⟩ k) else 0

/-- Sixteen rows to a sequence are 512 rows in all, so a row's sequence is always there. -/
theorem stepRow_eq (x : (⟨3, ![32, 4, 1024]⟩ : Shape).Idx → EReal) (R : Fin 512) (k : Fin 1024) :
    (if h : R.val / 16 < 32 ∧ R.val % 16 < 4 then x (ix3 ⟨R.val / 16, h.1⟩ ⟨R.val % 16, h.2⟩ k) else 0) = stepRow x R k := by
  unfold stepRow
  by_cases h : R.val % 16 < 4
  · rw [dif_pos ⟨by omega, h⟩, dif_pos h]
  · rw [dif_neg (fun q => h q.2), dif_neg h]

/-- The integer zero as a float is zero. -/
theorem zero_int : (FloatOps.sitofp .f32 0#32 : Ideal .f32) = (0 : EReal) := by
  show (((0#32 : BitVec 32).toInt : ℝ) : EReal) = 0
  simp

/-- Two numbers turned into weights by the softmax: entry `r` of `v`. -/
def soft2 (v : Fin 2 → EReal) (r : Fin 2) : EReal :=
  Ideal.div (Ideal.exp (v r - Finset.univ.fold max (Ideal.ofBits .f32 0xFF800000#32) v))
    (∑ k, Ideal.exp (v k - Finset.univ.fold max (Ideal.ofBits .f32 0xFF800000#32) v))

/-- The second layer's lower bound: the running sum of the two weights less its first entry. -/
def lower (v : Fin 2 → EReal) : EReal := soft2 v 0 + soft2 v 1 - soft2 v 0

/-- The forget gate of a projection `p`, raised to the lower bound. -/
def forget (v : Fin 2 → EReal) (p : EReal) : EReal := lower v + (1 - lower v) * Ideal.logistic p

/-- The maximum with the least number it starts from is the fold itself. -/
theorem max_fold {n : Nat} (b : EReal) (v : Fin n → EReal) : max b (Finset.univ.fold max b v) = Finset.univ.fold max b v :=
  max_eq_right ((Finset.le_fold_max b).mpr (Or.inl le_rfl))

/-- The position a window of two rows reads. -/
theorem win2 : ∀ n : Fin (⟨2, ![2, 1]⟩ : Shape).numel, (((⟨2, ![2, 1]⟩ : Shape).rowMajor.symm n) 0).val = n.val ∧ (((⟨2, ![2, 1]⟩ : Shape).rowMajor.symm n) 1).val = 0 := by
  decide +kernel

/-- The running sum down two rows, as a window sum padded one low: the first row, then the sum of both. -/
theorem running2 (x : FVec Ideal ⟨2, ![2, 1024]⟩ .f32) (init : FVec Ideal ⟨0, ![]⟩ .f32)
    (h : (⟨2, ![2, 1024]⟩ : Shape).ReduceWindows ![2, 1] ![1, 1] ![1, 0] ![0, 0] ⟨2, ![2, 1024]⟩) (hu : 0 < (⟨0, ![]⟩ : Shape).numel)
    (h0 : init (Shape.Idx.first hu) = (0 : EReal)) (r : Fin 2) (l : Fin 1024) :
    Host.reduceWindowAdd ![2, 1] ![1, 1] ![1, 0] ![0, 0] x init h hu (ix2 r l) = (if r = 0 then x (ix2 0 l) else (x (ix2 0 l) + x (ix2 1 l) : EReal)) := by
  have hl : List.finRange (⟨2, ![2, 1]⟩ : Shape).numel = [⟨0, by decide⟩, ⟨1, by decide⟩] := by decide +kernel
  show Host.reduceWindow (α := EReal) (· + ·) ![2, 1] ![1, 1] ![1, 0] ![0, 0] x (fun _ : (⟨0, ![]⟩ : Shape).Idx => init (Shape.Idx.first hu)) h hu (ix2 r l) = _
  rw [h0]
  unfold Host.reduceWindow
  dsimp only
  rw [show List.finRange (⟨2, ![2, 1]⟩ : Shape).numel = [⟨0, by decide⟩, ⟨1, by decide⟩] from hl]
  simp only [List.foldl_cons, List.foldl_nil]
  have w0 := fun n => (win2 n).1
  have w1 := fun n => (win2 n).2
  fin_cases r
  · rw [dif_neg (by intro q; have := (q 0).1; simp [w0] at this), dif_pos (by intro q; fin_cases q <;> simp [w0, w1])]
    simp only [zero_add]
    refine congrArg x (funext fun a => Fin.ext ?_)
    fin_cases a <;> simp [w0, w1]
  · rw [dif_pos (by intro q; fin_cases q <;> simp [w0, w1]), dif_pos (by intro q; fin_cases q <;> simp [w0, w1])]
    simp only [zero_add]
    refine congrArg₂ (fun a b : EReal => a + b) (congrArg x (funext fun a => Fin.ext ?_)) (congrArg x (funext fun a => Fin.ext ?_)) <;>
    fin_cases a <;> simp [w0, w1]
end Cert.Rows

end
-- ==== Proof.GlaRows.lean ====
/-
  One head's gated linear attention over four steps, as functions on the extended reals: the reference's form, the
  kernel's form on rows padded to eight with base-two exponentials, and their agreement.
-/
module

public import proofs.«01_k».proof.Proof.Rows

@[expose] public section

noncomputable section

namespace Cert.Rows

open Idealize.ShloMosaic

/-- The running sum of four numbers, up to and with entry `r`. -/
def cum4 (x : Fin 4 → EReal) (r : Fin 4) : EReal := ∑ s : Fin 4, if s.val ≤ r.val then x s else 0

/-- The position a window of four steps reads. -/
theorem win4 : ∀ n : Fin (⟨4, ![1, 1, 4, 1]⟩ : Shape).numel, (((⟨4, ![1, 1, 4, 1]⟩ : Shape).rowMajor.symm n) 0).val = 0 ∧ (((⟨4, ![1, 1, 4, 1]⟩ : Shape).rowMajor.symm n) 1).val = 0
    ∧ (((⟨4, ![1, 1, 4, 1]⟩ : Shape).rowMajor.symm n) 2).val = n.val ∧ (((⟨4, ![1, 1, 4, 1]⟩ : Shape).rowMajor.symm n) 3).val = 0 := by
  decide +kernel

/-- The running sum along four steps, as a window sum padded three low. -/
theorem running4 (x : FVec Ideal ⟨4, ![32, 8, 4, 128]⟩ .f32) (init : FVec Ideal ⟨0, ![]⟩ .f32)
    (h : (⟨4, ![32, 8, 4, 128]⟩ : Shape).ReduceWindows ![1, 1, 4, 1] ![1, 1, 1, 1] ![0, 0, 3, 0] ![0, 0, 0, 0] ⟨4, ![32, 8, 4, 128]⟩) (hu : 0 < (⟨0, ![]⟩ : Shape).numel)
    (h0 : init (Shape.Idx.first hu) = (0 : EReal)) (i : Fin 32) (e : Fin 8) (r : Fin 4) (l : Fin 128) :
    Host.reduceWindowAdd ![1, 1, 4, 1] ![1, 1, 1, 1] ![0, 0, 3, 0] ![0, 0, 0, 0] x init h hu (ix4 i e r l) = cum4 (fun s => x (ix4 i e s l)) r := by
  have hl : List.finRange (⟨4, ![1, 1, 4, 1]⟩ : Shape).numel = [⟨0, by decide⟩, ⟨1, by decide⟩, ⟨2, by decide⟩, ⟨3, by decide⟩] := by decide +kernel
  show Host.reduceWindow (α := EReal) (· + ·) ![1, 1, 4, 1] ![1, 1, 1, 1] ![0, 0, 3, 0] ![0, 0, 0, 0] x (fun _ : (⟨0, ![]⟩ : Shape).Idx => init (Shape.Idx.first hu)) h hu (ix4 i e r l) = _
  rw [h0]
  unfold Host.reduceWindow cum4
  dsimp only
  rw [show List.finRange (⟨4, ![1, 1, 4, 1]⟩ : Shape).numel = [⟨0, by decide⟩, ⟨1, by decide⟩, ⟨2, by decide⟩, ⟨3, by decide⟩] from hl, Fin.sum_univ_four]
  simp only [List.foldl_cons, List.foldl_nil]
  have w0 := fun n => (win4 n).1
  have w1 := fun n => (win4 n).2.1
  have w2 := fun n => (win4 n).2.2.1
  have w3 := fun n => (win4 n).2.2.2
  have key : ∀ (r : Fin 4) (n : Fin (⟨4, ![1, 1, 4, 1]⟩ : Shape).numel) (p : Fin 4) (f : (⟨4, ![32, 8, 4, 128]⟩ : Shape).Idx), r.val + n.val - 3 = p.val →
      (∀ a, (f a).val = (ix4 i e r l a).val * ![1, 1, 1, 1] a + ((⟨4, ![1, 1, 4, 1]⟩ : Shape).rowMajor.symm n a).val - ![0, 0, 3, 0] a) → x f = x (ix4 i e p l) := by
    intro r n p f hp hf
    refine congrArg x (funext fun a => Fin.ext ((hf a).trans ?_))
    fin_cases a
    · simp [w0]
    · simp [w1]
    · simpa [w2] using hp
    · simp [w3]
  have add2 : ∀ {a b a' b' : EReal}, a = a' → b = b' → a + b = a' + b' := fun p q => by rw [p, q]
  fin_cases r
  · rw [dif_neg (by intro q; have := (q 2).1; simp [w2] at this), dif_neg (by intro q; have := (q 2).1; simp [w2] at this), dif_neg (by intro q; have := (q 2).1; simp [w2] at this), dif_pos (by intro q; fin_cases q <;> simp [w0, w1, w2, w3] <;> omega)]
    refine (add2 rfl (key 0 ⟨3, by decide⟩ 0 _ rfl (fun _ => rfl))).trans ?_
    simp
  · rw [dif_neg (by intro q; have := (q 2).1; simp [w2] at this), dif_neg (by intro q; have := (q 2).1; simp [w2] at this),
      dif_pos (by intro q; fin_cases q <;> simp [w0, w1, w2, w3] <;> omega),
      dif_pos (by intro q; fin_cases q <;> simp [w0, w1, w2, w3] <;> omega)]
    refine (add2 (add2 rfl (key 1 ⟨2, by decide⟩ 0 _ rfl (fun _ => rfl))) (key 1 ⟨3, by decide⟩ 1 _ rfl (fun _ => rfl))).trans ?_
    simp
  · rw [dif_neg (by intro q; have := (q 2).1; simp [w2] at this),
      dif_pos (by intro q; fin_cases q <;> simp [w0, w1, w2, w3] <;> omega),
      dif_pos (by intro q; fin_cases q <;> simp [w0, w1, w2, w3] <;> omega),
      dif_pos (by intro q; fin_cases q <;> simp [w0, w1, w2, w3] <;> omega)]
    refine (add2 (add2 (add2 rfl (key 2 ⟨1, by decide⟩ 0 _ rfl (fun _ => rfl))) (key 2 ⟨2, by decide⟩ 1 _ rfl (fun _ => rfl)))
      (key 2 ⟨3, by decide⟩ 2 _ rfl (fun _ => rfl))).trans ?_
    simp
  · rw [dif_pos (by intro q; fin_cases q <;> simp [w0, w1, w2, w3] <;> omega),
      dif_pos (by intro q; fin_cases q <;> simp [w0, w1, w2, w3] <;> omega),
      dif_pos (by intro q; fin_cases q <;> simp [w0, w1, w2, w3] <;> omega),
      dif_pos (by intro q; fin_cases q <;> simp [w0, w1, w2, w3] <;> omega)]
    refine (add2 (add2 (add2 (add2 rfl (key 3 ⟨0, by decide⟩ 0 _ rfl (fun _ => rfl))) (key 3 ⟨1, by decide⟩ 1 _ rfl (fun _ => rfl)))
      (key 3 ⟨2, by decide⟩ 2 _ rfl (fun _ => rfl))) (key 3 ⟨3, by decide⟩ 3 _ rfl (fun _ => rfl))).trans ?_
    simp

/-- A head's output row `r` at column `l` before it is normalized: queries `q`, keys `k`, values `v`, logarithms of the
    forget gates `lf`, state `s0`. -/
def glaPre (q k v lf : Fin 4 → Fin 128 → EReal) (s0 : Fin 128 → Fin 128 → EReal) (r : Fin 4) (l : Fin 128) : EReal :=
  (∑ j, q r j * Ideal.exp (cum4 (fun s => lf s j) r) * s0 j l)
    + ∑ s : Fin 4, (∑ j, q r j * k s j * Ideal.exp (if s.val ≤ r.val then cum4 (fun s => lf s j) r - cum4 (fun s => lf s j) s else ⊥)) * v s l

/-- A row of 128 numbers normalized, gained and gated, at column `l`. -/
def glaNorm (o g t : Fin 128 → EReal) (l : Fin 128) : EReal :=
  o l * Ideal.rsqrt (Ideal.div (∑ d, o d * o d) (Ideal.ofBits .f32 0x43000000#32) + Ideal.ofBits .f32 0x358637BD#32) * g l * t l

/-- A head's state after the four steps. -/
def glaState (k v lf : Fin 4 → Fin 128 → EReal) (s0 : Fin 128 → Fin 128 → EReal) (j l : Fin 128) : EReal :=
  Ideal.exp (cum4 (fun s => lf s j) 3) * s0 j l + ∑ s : Fin 4, k s j * Ideal.exp (cum4 (fun s => lf s j) 3 - cum4 (fun s => lf s j) s) * v s l

/-- The base-two exponential of a number over the logarithm of two is its exponential. -/
theorem exp2_mul (x : EReal) : Ideal.exp2 (x * (((Real.log 2)⁻¹ : ℝ) : EReal)) = Ideal.exp x := by
  have h2 : 0 < Real.log 2 := Real.log_pos one_lt_two
  induction x using EReal.rec with
  | bot => rw [EReal.bot_mul_coe_of_pos (inv_pos.mpr h2)]; rfl
  | top => rw [EReal.top_mul_coe_of_pos (inv_pos.mpr h2)]; rfl
  | coe r =>
    rw [← EReal.coe_mul, Ideal.exp2_coe, Ideal.exp_coe]
    congr 1
    show (2 : ℝ) ^ (r * (Real.log 2)⁻¹) = _
    rw [Real.rpow_def_of_pos two_pos]
    congr 1
    field_simp

/-- Multiplying by a nonnegative number distributes over a difference. -/
theorem sub_mul_coe (x y : EReal) : x * (((Real.log 2)⁻¹ : ℝ) : EReal) - y * (((Real.log 2)⁻¹ : ℝ) : EReal) = (x - y) * (((Real.log 2)⁻¹ : ℝ) : EReal) := by
  rw [sub_eq_add_neg, sub_eq_add_neg, ← EReal.neg_mul,
    EReal.right_distrib_of_nonneg_of_ne_top (EReal.coe_nonneg.mpr (inv_nonneg.mpr (Real.log_nonneg one_le_two))) (EReal.coe_ne_top _)]

/-- Four rows, with four zero rows below. -/
def pad8 (x : Fin 4 → EReal) (r : Fin 8) : EReal := if h : r.val < 4 then x ⟨r.val, h⟩ else 0

/-- The kernel's running logarithms in base two: eight rows summed up to row `r`. -/
def cum8 (x : Fin 8 → EReal) (r : Fin 8) : EReal := (∑ s : Fin 8, if s.val ≤ r.val then x s else 0) * (((Real.log 2)⁻¹ : ℝ) : EReal)

/-- On four padded rows they are the running sums, -/
theorem cum8_pad (x : Fin 4 → EReal) (r : Fin 4) : cum8 (pad8 x) ⟨r.val, by omega⟩ = cum4 x r * (((Real.log 2)⁻¹ : ℝ) : EReal) := by
  unfold cum8 cum4
  congr 1
  rw [Fin.sum_univ_eight, Fin.sum_univ_four]
  fin_cases r <;> simp [pad8]

/-- and the last row is the last sum. -/
theorem cum8_last (x : Fin 4 → EReal) : cum8 (pad8 x) 7 = cum4 x 3 * (((Real.log 2)⁻¹ : ℝ) : EReal) := by
  unfold cum8 cum4
  congr 1
  rw [Fin.sum_univ_eight, Fin.sum_univ_four]
  simp [pad8]

/-- The kernel's form of a head's output row. -/
def kerPre (q lf : Fin 8 → Fin 128 → EReal) (k v : Fin 4 → Fin 128 → EReal) (s0 : Fin 128 → Fin 128 → EReal) (r : Fin 8) (l : Fin 128) : EReal :=
  (∑ j, q r j * Ideal.exp2 (cum8 (fun s => lf s j) r) * s0 j l)
    + ∑ s : Fin 4, (∑ j, Ideal.exp2 (if s.val ≤ r.val then cum8 (fun s => lf s j) r - cum8 (fun s => lf s j) ⟨s.val, by omega⟩ else ⊥) * q r j * k s j) * v s l

/-- On padded rows it is the reference's form, and nothing below. -/
theorem kerPre_pad (q k v lf : Fin 4 → Fin 128 → EReal) (s0 : Fin 128 → Fin 128 → EReal) (r : Fin 8) (l : Fin 128) :
    kerPre (fun r j => pad8 (fun s => q s j) r) (fun r j => pad8 (fun s => lf s j) r) k v s0 r l = pad8 (fun s => glaPre q k v lf s0 s l) r := by
  by_cases h : r.val < 4
  · obtain ⟨p, rfl⟩ : ∃ p : Fin 4, r = ⟨p.val, p.isLt.trans (by decide)⟩ := ⟨⟨r.val, h⟩, rfl⟩
    have hp : ∀ (x : Fin 4 → EReal) (hb : p.val < 8), pad8 x ⟨p.val, hb⟩ = x p := fun x _ => dif_pos h
    unfold kerPre glaPre
    simp only [cum8_pad, hp, exp2_mul, sub_mul_coe]
    refine congrArg₂ (fun a b : EReal => a + b) rfl (Finset.sum_congr rfl fun s _ => ?_)
    refine congrArg (fun a : EReal => a * v s l) (Finset.sum_congr rfl fun j _ => ?_)
    rw [mul_assoc, mul_comm]
    congr 1
    by_cases hs : s.val ≤ p.val
    · simp only [if_pos hs, exp2_mul]
    · simp only [if_neg hs]; rfl
  · unfold kerPre pad8
    simp only [dif_neg h, mul_zero, zero_mul, Finset.sum_const_zero, add_zero]

/-- The kernel's form of a head's state. -/
def kerState (k v lf : Fin 8 → Fin 128 → EReal) (s0 : Fin 128 → Fin 128 → EReal) (j l : Fin 128) : EReal :=
  s0 j l * Ideal.exp2 (cum8 (fun s => lf s j) 7) + ∑ s : Fin 8, v s l * (k s j * Ideal.exp2 (cum8 (fun s => lf s j) 7 - cum8 (fun s => lf s j) s))

/-- On padded rows it is the reference's form. -/
theorem kerState_pad (k v lf : Fin 4 → Fin 128 → EReal) (s0 : Fin 128 → Fin 128 → EReal) (j l : Fin 128) :
    kerState (fun r j => pad8 (fun s => k s j) r) (fun r j => pad8 (fun s => v s j) r) (fun r j => pad8 (fun s => lf s j) r) s0 j l = glaState k v lf s0 j l := by
  unfold kerState glaState
  have e0 : cum8 (pad8 fun s => lf s j) 0 = _ := cum8_pad (fun s => lf s j) 0
  have e1 : cum8 (pad8 fun s => lf s j) 1 = _ := cum8_pad (fun s => lf s j) 1
  have e2 : cum8 (pad8 fun s => lf s j) 2 = _ := cum8_pad (fun s => lf s j) 2
  have e3 : cum8 (pad8 fun s => lf s j) 3 = _ := cum8_pad (fun s => lf s j) 3
  have p0 : ∀ x, pad8 x 0 = x 0 := fun _ => rfl
  have p1 : ∀ x, pad8 x 1 = x 1 := fun _ => rfl
  have p2 : ∀ x, pad8 x 2 = x 2 := fun _ => rfl
  have p3 : ∀ x, pad8 x 3 = x 3 := fun _ => rfl
  have p4 : ∀ x, pad8 x 4 = 0 := fun _ => rfl
  have p5 : ∀ x, pad8 x 5 = 0 := fun _ => rfl
  have p6 : ∀ x, pad8 x 6 = 0 := fun _ => rfl
  have p7 : ∀ x, pad8 x 7 = 0 := fun _ => rfl
  have e7 : cum8 (fun s => pad8 (fun s => lf s j) s) 7 = _ := cum8_last (fun s => lf s j)
  rw [Fin.sum_univ_eight, Fin.sum_univ_four]
  simp only [e7, e0, e1, e2, e3, p0, p1, p2, p3, p4, p5, p6, p7, sub_mul_coe, exp2_mul, zero_mul, add_zero]
  rw [mul_comm (s0 j l)]
  congr 1
  simp only [mul_comm (v _ _)]

/-- A row of zeros stays zero when normalized, gained and gated. -/
theorem glaNorm_zero (g t : Fin 128 → EReal) (l : Fin 128) : glaNorm (fun _ => 0) g t l = 0 := by
  unfold glaNorm
  simp only [zero_mul]

end Cert.Rows

end
-- ==== Proof.GlaValue.lean ====
/-
  The recurrent layer's gated linear attention, four steps of 32 sequences at a time: what the kernel leaves in its
  output array and in its state array, as functions of its arguments. Each head goes through the same chain of
  operations; the lemmas below read that chain once, and the eight heads use it at their own columns.
-/
module

public import proofs.«01_k».proof.Proof.GlaRows
public import proofs.«01_k».proof.Proof.Gen.GlaIdeal.Value
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.GlaIdeal.RefValue

open Cert.GlaIdeal Cert.GlaIdeal.Gen
open Idealize.ShloMosaic.Pipeline (Dat)

variable (m : (ℓ : Loc nD τ sig) → Buf (Elt Ideal) ℓ) (ρ : Dev nD → PrngReg)

/-- Row and column masks: rows from `s` on. -/
def mask (s : BitVec 32) : IVec S8x128 1 := cmpi .sge (iota .tc S8x128 32 [0] iota_S8x128_d0_w32) (broadcast S8x128 s)

/-- Entry by entry. -/
theorem mask_apply (s : Fin 4) (r : Fin 8) (l : Fin 128) : mask (BitVec.ofNat 32 s.val) (ix2 r l) = if s.val ≤ r.val then 1#1 else 0#1 := by
  unfold mask
  pointwise
  fin_cases s <;> fin_cases r <;> rfl

/-- What one key row gives to a head's eight query rows. -/
def keyTerm (s : BitVec 32) (b q : FVec Ideal S8x128 .f32) (bs ks vs : Vec Ideal S1x128 .f32) : FVec Ideal S8x128 .f32 :=
  mulf (broadcastTo S8x128 (shapeCast S8x1 (multiReduction .add [1] S8
      (mulf (mulf (exp2 (select (mask s) (subf b (broadcastTo S8x128 bs broadcasts_S1x128_S8x128)) (broadcast S8x128 (Scalar.ofBits .f32 0xFF800000#32)))) q)
        (broadcastTo S8x128 (shapeCast S1x128 ks shapeCasts_S1x128_S1x128) broadcasts_S1x128_S8x128))
      0x00000000#32 reduces_S8x128_S8 (.inl rfl) rfl) shapeCasts_S8_S8x1) broadcasts_S8x1_S8x128)
    (broadcastTo S8x128 (shapeCast S1x128 vs shapeCasts_S1x128_S1x128) broadcasts_S1x128_S8x128)

/-- At row `r` and lane `l`: the decayed score of the row against the key, times the value. -/
theorem keyTerm_apply (s : Fin 4) (b q : FVec Ideal S8x128 .f32) (bs ks vs : Vec Ideal S1x128 .f32) (r : Fin 8) (l : Fin 128) :
    keyTerm (BitVec.ofNat 32 s.val) b q bs ks vs (ix2 r l)
      = (∑ j : Fin 128, Ideal.exp2 (if s.val ≤ r.val then b (ix2 r j) - bs (ix2 0 j) else ⊥) * q (ix2 r j) * ks (ix2 0 j)) * vs (ix2 0 l) := by
  have hb : Ideal.ofBits .f32 4286578688#32 = ⊥ := by simp [Ideal.ofBits, Ideal.ieee]
  unfold keyTerm
  pointwise [mask_apply]
  congr 1
  refine Finset.sum_congr rfl fun j _ => ?_
  by_cases h : s.val ≤ r.val
  · simp only [if_pos h]; rfl
  · simp only [if_neg h, ← hb]; rfl

/-- The running logarithms of the forget gates in base two. -/
theorem logs_apply (lf : Vec Ideal S8x1024 .f32) (r : Fin 8) (l : Fin 1024) : k0_pay18 lf (ix2 r l) = Rows.cum8 (fun s => lf (ix2 s l)) r := by
  have hc : ∀ r s : Fin 8, IntOp.cmpi CmpIPredicate.sge (BitVec.ofNat 32 r.val) (BitVec.ofNat 32 s.val) = if s.val ≤ r.val then 1#1 else 0#1 := by decide
  unfold k0_pay18
  pointwise [dot_S8x8_S8x1024_S8x1024_1_0_0_1_n_n]
  rw [IdealRules.named_const.ideal_named_scalar κ "log2e" _ (((Real.log 2)⁻¹ : ℝ) : EReal) rfl]
  refine congrArg (fun a : EReal => a * (((Real.log 2)⁻¹ : ℝ) : EReal)) (Finset.sum_congr rfl fun s _ => ?_)
  rw [hc]
  by_cases h : s.val ≤ r.val
  · simp only [if_pos h]; rfl
  · simp only [if_neg h]; rfl

/-- One head's state before the four steps, transposed, as the body keeps it. -/
theorem pay16_apply (s : Vec Ideal S1x1x128x128 .f32) (i j : Fin 128) : k0_pay16 s (ix3 0 i j) = s (ix4 0 0 j i) := by
  unfold k0_pay16
  pointwise

/-- One head's state after the four steps. -/
def headState (b : FVec Ideal S8x128 .f32) (k : Vec Ideal S8x128 .f32) (st : Vec Ideal S1x128x128 .f32) (v : Vec Ideal S8x128 .f32) : FVec Ideal S1x1x128x128 .f32 :=
  k0_pay4 (shapeCast S1x128x128 (addf (mulf (shapeCast S128x128 st shapeCasts_S1x128x128_S128x128)
      (broadcastTo S128x128 (exp2 (extractStridedSlice S1x128 ![7, 0] b slices_S8x128_o7_0_S1x128)) broadcasts_S1x128_S128x128))
    (matmul dot_S8x128_S8x128_S128x128_0_0_1_1_n_n none (truncf .bf16 (shapeCast S8x128 v shapeCasts_S8x128_S8x128) bitsLt_bf16_f32)
      (truncf .bf16 (mulf (shapeCast S8x128 k shapeCasts_S8x128_S8x128)
        (exp2 (subf (broadcastTo S8x128 (extractStridedSlice S1x128 ![7, 0] b slices_S8x128_o7_0_S1x128) broadcasts_S1x128_S8x128) b))) bitsLt_bf16_f32)
      (constant S128x128 .f32 0x00000000#32))) shapeCasts_S128x128_S1x128x128)

/-- Entry by entry. -/
theorem headState_apply (b : FVec Ideal S8x128 .f32) (k : Vec Ideal S8x128 .f32) (st : Vec Ideal S1x128x128 .f32) (v : Vec Ideal S8x128 .f32) (j l : Fin 128) :
    headState b k st v (ix4 0 0 j l) = st (ix3 0 l j) * Ideal.exp2 (b (ix2 7 j)) + ∑ s : Fin 8, v (ix2 s l) * (k (ix2 s j) * Ideal.exp2 (b (ix2 7 j) - b (ix2 s j))) := by
  unfold headState k0_pay4
  pointwise [dot_S8x128_S8x128_S128x128_0_0_1_1_n_n]
  rfl

/-- One head's output before it is normalized. -/
def headPre (b : FVec Ideal S8x128 .f32) (q : Vec Ideal S8x128 .f32) (st : Vec Ideal S1x128x128 .f32) (b0 k0 v0 b1 k1 v1 b2 k2 v2 b3 k3 v3 : Vec Ideal S1x128 .f32) : FVec Ideal S8x128 .f32 :=
  addf (matmul dot_S8x128_S128x128_S8x128_1_1_0_0_n_n none
      (truncf .bf16 (mulf (shapeCast S8x128 q shapeCasts_S8x128_S8x128) (exp2 b)) bitsLt_bf16_f32)
      (truncf .bf16 (shapeCast S128x128 st shapeCasts_S1x128x128_S128x128) bitsLt_bf16_f32) (constant S8x128 .f32 0x00000000#32))
    (addf (addf (addf (addf (broadcast S8x128 (Scalar.ofBits .f32 0x00000000#32)) (keyTerm 0#32 b (shapeCast S8x128 q shapeCasts_S8x128_S8x128) b0 k0 v0))
      (keyTerm 1#32 b (shapeCast S8x128 q shapeCasts_S8x128_S8x128) b1 k1 v1)) (keyTerm 2#32 b (shapeCast S8x128 q shapeCasts_S8x128_S8x128) b2 k2 v2))
      (keyTerm 3#32 b (shapeCast S8x128 q shapeCasts_S8x128_S8x128) b3 k3 v3))

/-- One head's output rows: normalized, gained, gated, and eight zero rows below. -/
def headOut (o : FVec Ideal S8x128 .f32) (gain : Vec Ideal S1x128 .f32) (gate : Vec Ideal S8x128 .f32) : FVec Ideal S16x128 .bf16 :=
  truncf .bf16 (concatenate S16x128 0 [⟨S8x128, mulf (mulf (mulf o (broadcastTo S8x128 (rsqrt (addf (divf (shapeCast S8x1 (multiReduction .add [1] S8 (mulf o o) 0x00000000#32 reduces_S8x128_S8 (.inl rfl) rfl) shapeCasts_S8_S8x1)
      (broadcast S8x1 (Scalar.ofBits .f32 0x43000000#32))) (broadcast S8x1 (Scalar.ofBits .f32 0x358637BD#32)))) broadcasts_S8x1_S8x128))
      (broadcastTo S8x128 (shapeCast S1x128 gain shapeCasts_S1x128_S1x128) broadcasts_S1x128_S8x128)) (shapeCast S8x128 gate shapeCasts_S8x128_S8x128)⟩,
    ⟨S8x128, broadcast S8x128 (Scalar.ofBits .f32 0x00000000#32)⟩] concatenates_S8x128_S8x128_S16x128_d0) bitsLt_bf16_f32

/-- Entry by entry. -/
theorem headOut_apply (o : FVec Ideal S8x128 .f32) (gain : Vec Ideal S1x128 .f32) (gate : Vec Ideal S8x128 .f32) (r : Fin 16) (l : Fin 128) :
    headOut o gain gate (ix2 r l) = if h : r.val < 8 then
      o (ix2 ⟨r, h⟩ l) * Ideal.rsqrt (Ideal.div (∑ d, o (ix2 ⟨r, h⟩ d) * o (ix2 ⟨r, h⟩ d)) (Ideal.ofBits .f32 0x43000000#32) + Ideal.ofBits .f32 0x358637BD#32) * gain (ix2 0 l) * gate (ix2 ⟨r, h⟩ l) else 0 := by
  unfold headOut
  pointwise

/-- Output rows that vanish from the fifth on stay so, and the first four are normalized, gained and gated. -/
theorem headOut_pad (o : FVec Ideal S8x128 .f32) (gain : Vec Ideal S1x128 .f32) (gate : Vec Ideal S8x128 .f32) {O T : Fin 4 → Fin 128 → EReal} {G : Fin 128 → EReal}
    (ho : ∀ r d, o (ix2 r d) = Rows.pad8 (fun s => O s d) r) (hg : ∀ d, gain (ix2 0 d) = G d) (ht : ∀ r d, gate (ix2 r d) = Rows.pad8 (fun s => T s d) r) (a : Fin 16) (l : Fin 128) :
    headOut o gain gate (ix2 a l) = if h : a.val < 4 then Rows.glaNorm (O ⟨a.val, h⟩) G (T ⟨a.val, h⟩) l else 0 := by
  rw [headOut_apply]
  simp only [ho, hg, ht]
  by_cases h8 : a.val < 8
  · rw [dif_pos h8]
    by_cases h4 : a.val < 4
    · simp only [Rows.pad8, dif_pos h4]
      rfl
    · simp only [Rows.pad8, dif_neg h4, zero_mul]
  · rw [dif_neg h8, dif_neg (by omega)]

/-- Entry by entry, from what its pieces read. -/
theorem headPre_apply (b : FVec Ideal S8x128 .f32) (q : Vec Ideal S8x128 .f32) (st : Vec Ideal S1x128x128 .f32) (b0 k0 v0 b1 k1 v1 b2 k2 v2 b3 k3 v3 : Vec Ideal S1x128 .f32)
    {Q LF : Fin 8 → Fin 128 → EReal} {K V : Fin 4 → Fin 128 → EReal} {S0 : Fin 128 → Fin 128 → EReal}
    (hq : ∀ r j, q (ix2 r j) = Q r j) (hb : ∀ r j, b (ix2 r j) = Rows.cum8 (fun s => LF s j) r) (hst : ∀ j l, st (ix3 0 l j) = S0 j l)
    (hb0 : ∀ j, b0 (ix2 0 j) = Rows.cum8 (fun s => LF s j) 0) (hb1 : ∀ j, b1 (ix2 0 j) = Rows.cum8 (fun s => LF s j) 1)
    (hb2 : ∀ j, b2 (ix2 0 j) = Rows.cum8 (fun s => LF s j) 2) (hb3 : ∀ j, b3 (ix2 0 j) = Rows.cum8 (fun s => LF s j) 3)
    (hk0 : ∀ j, k0 (ix2 0 j) = K 0 j) (hk1 : ∀ j, k1 (ix2 0 j) = K 1 j) (hk2 : ∀ j, k2 (ix2 0 j) = K 2 j) (hk3 : ∀ j, k3 (ix2 0 j) = K 3 j)
    (hv0 : ∀ j, v0 (ix2 0 j) = V 0 j) (hv1 : ∀ j, v1 (ix2 0 j) = V 1 j) (hv2 : ∀ j, v2 (ix2 0 j) = V 2 j) (hv3 : ∀ j, v3 (ix2 0 j) = V 3 j)
    (r : Fin 8) (l : Fin 128) :
    headPre b q st b0 k0 v0 b1 k1 v1 b2 k2 v2 b3 k3 v3 (ix2 r l) = Rows.kerPre Q LF K V S0 r l := by
  have e0 := keyTerm_apply 0 b q b0 k0 v0 r l
  have e1 := keyTerm_apply 1 b q b1 k1 v1 r l
  have e2 := keyTerm_apply 2 b q b2 k2 v2 r l
  have e3 := keyTerm_apply 3 b q b3 k3 v3 r l
  unfold headPre Rows.kerPre
  pointwise [dot_S8x128_S128x128_S8x128_1_1_0_0_n_n]
  rw [Fin.sum_univ_four]
  simp only [hq, hb, hb0, hb1, hb2, hb3, hk0, hk1, hk2, hk3, hv0, hv1, hv2, hv3] at e0 e1 e2 e3
  simp only [hq, hb, hst]
  exact congrArg₂ (fun a b : EReal => a + b) rfl (congrArg₂ (fun a b : EReal => a + b) (congrArg₂ (fun a b : EReal => a + b) (congrArg₂ (fun a b : EReal => a + b) e0 e1) e2) e3)

/-- Device `c`'s seven arguments: queries, keys, values, logarithms of the forget gates, output gates, gains, states. -/
abbrev argQ (c : Dev nD) : FVec Ideal S32x4x1024 .f32 := m ((c : Thread nD τ).loc main_arg0)
abbrev argK (c : Dev nD) : FVec Ideal S32x4x1024 .f32 := m ((c : Thread nD τ).loc main_arg1)
abbrev argV (c : Dev nD) : FVec Ideal S32x4x1024 .f32 := m ((c : Thread nD τ).loc main_arg2)
abbrev argF (c : Dev nD) : FVec Ideal S32x4x1024 .f32 := m ((c : Thread nD τ).loc main_arg3)
abbrev argT (c : Dev nD) : FVec Ideal S32x4x1024 .f32 := m ((c : Thread nD τ).loc main_arg4)
abbrev argG (c : Dev nD) : FVec Ideal S1024 .f32 := m ((c : Thread nD τ).loc main_arg5)
abbrev argS (c : Dev nD) : FVec Ideal S32x8x128x128 .f32 := m ((c : Thread nD τ).loc main_arg6)

/-- Where each window's block lies at point `t`: one sequence at a time, the gains whole. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0, 0, 0] ∧ win0_7.index t = ![t.val, 0] ∧ win0_8.index t = ![t.val, 0, 0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![t.val, 0, 0, 0] ∧ win0_7.index t = ![t.val, 0] ∧ win0_8.index t = ![t.val, 0, 0, 0])

/-- The sequence of point `t`. -/
def seqOf (t : Fin cfg0.N) : Fin 32 := ⟨t.val, by have : t.val < 32 := N_0 ▸ t.isLt; omega⟩

/-- Row `a` of sequence `i`, zero from the fifth row on. -/
def padRow (x : FVec Ideal S32x4x1024 .f32) (i : Fin 32) (a : Fin 16) (k : Fin 1024) : EReal := if h : a.val < 4 then x (ix3 i ⟨a.val, h⟩ k) else 0

/-- The integer zero as a float is zero. -/
theorem zero_int : (FloatOps.sitofp .f32 0#32 : Ideal .f32) = (0 : EReal) := by
  show (((0#32 : BitVec 32).toInt : ℝ) : EReal) = 0
  simp

/-- The gains' block is the whole row of gains, -/
theorem ib5 (c : Dev nD) (t : Fin cfg0.N) (k : Fin 1024) : iblk m c 5 t (ix2 0 k) = argG m c (ix1 k) := by
  unfold iblk argG
  entry_read
  blk_simp [idx t]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_reads_at
  blk_ext [idx t]

/-- and the state's block the sequence's eight states. -/
theorem ib6 (c : Dev nD) (t : Fin cfg0.N) (h : Fin 8) (j k : Fin 128) : iblk m c 6 t (ix4 0 h j k) = argS m c (ix4 ⟨t.val, by have : t.val < 32 := N_0 ▸ t.isLt; omega⟩ h j k) := by
  unfold iblk argS
  entry_read
  blk_simp [idx t]
  pointwise
  blk_ext [idx t]

/-- The queries' block at point `t`: the sequence's four rows, zeros below. -/
theorem ib0 (c : Dev nD) (t : Fin cfg0.N) (a : Fin 16) (k : Fin 1024) : iblk m c 0 t (ix2 a k) = padRow (argQ m c) (seqOf t) a k := by
  unfold iblk argQ
  entry_read
  blk_simp [idx t]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  rw [show ((View.whole main_v1).slice (win0_0.rect t)).emb (ix2 a k) = ix2 ⟨t.val * 16 + a.val, by have : t.val < 32 := N_0 ▸ t.isLt; omega⟩ k by blk_ext [idx t]]
  after_reads_at
  rw [zero_int]
  rfl

/-- The keys' block, -/
theorem ib1 (c : Dev nD) (t : Fin cfg0.N) (a : Fin 16) (k : Fin 1024) : iblk m c 1 t (ix2 a k) = padRow (argK m c) (seqOf t) a k := by
  unfold iblk argK
  entry_read
  blk_simp [idx t]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  rw [show ((View.whole main_v3).slice (win0_1.rect t)).emb (ix2 a k) = ix2 ⟨t.val * 16 + a.val, by have : t.val < 32 := N_0 ▸ t.isLt; omega⟩ k by blk_ext [idx t]]
  after_reads_at
  rw [zero_int]
  rfl

/-- the values' block, -/
theorem ib2 (c : Dev nD) (t : Fin cfg0.N) (a : Fin 16) (k : Fin 1024) : iblk m c 2 t (ix2 a k) = padRow (argV m c) (seqOf t) a k := by
  unfold iblk argV
  entry_read
  blk_simp [idx t]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  rw [show ((View.whole main_v5).slice (win0_2.rect t)).emb (ix2 a k) = ix2 ⟨t.val * 16 + a.val, by have : t.val < 32 := N_0 ▸ t.isLt; omega⟩ k by blk_ext [idx t]]
  after_reads_at
  rw [zero_int]
  rfl

/-- the logarithms' block -/
theorem ib3 (c : Dev nD) (t : Fin cfg0.N) (a : Fin 16) (k : Fin 1024) : iblk m c 3 t (ix2 a k) = padRow (argF m c) (seqOf t) a k := by
  unfold iblk argF
  entry_read
  blk_simp [idx t]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  rw [show ((View.whole main_v7).slice (win0_3.rect t)).emb (ix2 a k) = ix2 ⟨t.val * 16 + a.val, by have : t.val < 32 := N_0 ▸ t.isLt; omega⟩ k by blk_ext [idx t]]
  after_reads_at
  rw [zero_int]
  rfl

/-- and the output gates' block. -/
theorem ib4 (c : Dev nD) (t : Fin cfg0.N) (a : Fin 16) (k : Fin 1024) : iblk m c 4 t (ix2 a k) = padRow (argT m c) (seqOf t) a k := by
  unfold iblk argT
  entry_read
  blk_simp [idx t]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  rw [show ((View.whole main_v9).slice (win0_4.rect t)).emb (ix2 a k) = ix2 ⟨t.val * 16 + a.val, by have : t.val < 32 := N_0 ▸ t.isLt; omega⟩ k by blk_ext [idx t]]
  after_reads_at
  rw [zero_int]
  rfl

/-- Head `h`'s four rows of sequence `i`. -/
def headRow (x : FVec Ideal S32x4x1024 .f32) (i : Fin 32) (h : Fin 8) (r : Fin 4) (j : Fin 128) : EReal := x (ix3 i r ⟨128 * h.val + j.val, by omega⟩)

/-- Row `r` and lane `l` of head `h`'s output for sequence `i`. -/
def outAt (q k v f t : FVec Ideal S32x4x1024 .f32) (g : FVec Ideal S1024 .f32) (s : FVec Ideal S32x8x128x128 .f32) (i : Fin 32) (h : Fin 8) (r : Fin 4) (l : Fin 128) : EReal :=
  Rows.glaNorm (Rows.glaPre (headRow q i h) (headRow k i h) (headRow v i h) (headRow f i h) (fun j l => s (ix4 i h j l)) r)
    (fun d => g (ix1 ⟨128 * h.val + d.val, by omega⟩)) (headRow t i h r) l

/-- The output array: sixteen rows per sequence, the first four the steps. -/
def out (q k v f t : FVec Ideal S32x4x1024 .f32) (g : FVec Ideal S1024 .f32) (s : FVec Ideal S32x8x128x128 .f32) : S512x1024.Idx → EReal := fun i =>
  if hr : (i 0).val % 16 < 4 then
    outAt q k v f t g s ⟨(i 0).val / 16, by have : (i 0).val < 512 := (i 0).isLt; omega⟩ ⟨(i 1).val / 128, by have : (i 1).val < 1024 := (i 1).isLt; omega⟩
      ⟨(i 0).val % 16, hr⟩ ⟨(i 1).val % 128, by omega⟩
  else 0

/-- The output block of point `t`. -/
def outBlk (c : Dev nD) (t : Fin cfg0.N) : S16x1024.Idx → EReal := fun y =>
  out (argQ m c) (argK m c) (argV m c) (argF m c) (argT m c) (argG m c) (argS m c)
    (ix2 ⟨t.val * 16 + (y 0).val, by have : t.val < 32 := N_0 ▸ t.isLt; have : (y 0).val < 16 := (y 0).isLt; omega⟩ (y 1))

/-- The state array. -/
def state (k v f : FVec Ideal S32x4x1024 .f32) (s : FVec Ideal S32x8x128x128 .f32) : S32x8x128x128.Idx → EReal := fun i =>
  Rows.glaState (headRow k (i 0) (i 1)) (headRow v (i 0) (i 1)) (headRow f (i 0) (i 1)) (fun j l => s (ix4 (i 0) (i 1) j l)) (i 2) (i 3)

/-- Eight rows of one head out of a padded block are the head's four rows, zeros below. -/
theorem ld_head {X : Vec Ideal S16x1024 .f32} {x : FVec Ideal S32x4x1024 .f32} {i : Fin 32} (hX : ∀ a k, X (ix2 a k) = padRow x i a k)
    (n o : Nat) (hn : n < 8) (ho : o = 128 * n) (i1) (r : Fin 8) (j : Fin 128) :
    View.ld X (Rect.unit (s := S16x1024) ![0, o] S8x128.size i1) (ix2 r j) = Rows.pad8 (fun s => headRow x i ⟨n, hn⟩ s j) r := by
  subst ho
  rw [View.ld_unit_apply_of X _ _ i1 (ix2 r j) (ix2 ⟨r.val, by omega⟩ ⟨128 * n + j.val, by omega⟩) (fun a => by fin_cases a <;> simp), hX]
  rfl

/-- One row of one head out of a padded block. -/
theorem ld_row {X : Vec Ideal S16x1024 .f32} {x : FVec Ideal S32x4x1024 .f32} {i : Fin 32} (hX : ∀ a k, X (ix2 a k) = padRow x i a k)
    (n o : Nat) (hn : n < 8) (ho : o = 128 * n) (s : Nat) (hs : s < 4) (i1) (j : Fin 128) :
    View.ld X (Rect.unit (s := S16x1024) ![s, o] S1x128.size i1) (ix2 0 j) = headRow x i ⟨n, hn⟩ ⟨s, hs⟩ j := by
  subst ho
  rw [View.ld_unit_apply_of X _ _ i1 (ix2 0 j) (ix2 ⟨s, by omega⟩ ⟨128 * n + j.val, by omega⟩) (fun a => by fin_cases a <;> simp), hX]
  exact dif_pos hs

/-- The running logarithms of one head, -/
theorem logs_head (c : Dev nD) (t : Fin cfg0.N) (n o : Nat) (hn : n < 8) (ho : o = 128 * n) (i0) (r : Fin 8) (j : Fin 1024) (l : Fin 128) (hj : j.val = 128 * n + l.val) :
    k0_pay18 (View.ld (iblk m c 3 t) (Rect.unit (s := S16x1024) ![0, 0] S8x1024.size i0)) (ix2 r j)
      = Rows.cum8 (fun s => Rows.pad8 (fun s => headRow (argF m c) (seqOf t) ⟨n, hn⟩ s l) s) r := by
  rw [logs_apply]
  congr 1
  funext s
  rw [View.ld_unit_apply_of _ _ _ i0 (ix2 s j) (ix2 ⟨s.val, by omega⟩ j) (fun a => by fin_cases a <;> simp), ib3]
  rw [show j = ⟨128 * n + l.val, by omega⟩ from Fin.ext hj]
  rfl

/-- A slice of 128 columns at an entry. -/
theorem slice_apply (X : FVec Ideal S8x1024 .f32) (o : Nat) (ho : o + 128 ≤ 1024) (hs : S8x1024.Slices ![0, o] S8x128) (r : Fin 8) (l : Fin 128) :
    extractStridedSlice S8x128 ![0, o] X hs (ix2 r l) = X (ix2 r ⟨o + l.val, by omega⟩) := by
  refine congrArg X (funext fun a => Fin.ext ?_)
  fin_cases a <;> simp

/-- as the body slices them -/
theorem logs_slice (c : Dev nD) (t : Fin cfg0.N) (n o : Nat) (hn : n < 8) (ho : o = 128 * n) (i0) (hs : S8x1024.Slices ![0, o] S8x128) (r : Fin 8) (l : Fin 128) :
    extractStridedSlice S8x128 ![0, o] (k0_pay18 (View.ld (iblk m c 3 t) (Rect.unit (s := S16x1024) ![0, 0] S8x1024.size i0))) hs (ix2 r l)
      = Rows.cum8 (fun s => Rows.pad8 (fun s => headRow (argF m c) (seqOf t) ⟨n, hn⟩ s l) s) r := by
  subst ho
  exact (slice_apply _ _ (by omega) hs r l).trans (logs_head m c t n _ hn rfl i0 r ⟨128 * n + l.val, by omega⟩ l rfl)

/-- and as it reads one row back. -/
theorem logs_back (c : Dev nD) (t : Fin cfg0.N) (n o : Nat) (hn : n < 8) (ho : o = 128 * n) (i0 i1) (r : Nat) (hr : r < 8) (i2 : ∀ a : Fin 2, (![r, o] : Fin 2 → Nat) a + S1x128.size a ≤ S16x1024.size a) (l : Fin 128) :
    (View.readCov (Val := Elt Ideal) (View.whole cc0_scratch1) [⟨Rect.unit (s := S16x1024) ![0, 0] S8x1024.size i1, k0_pay19 (View.ld (iblk m c 3 t) (Rect.unit (s := S16x1024) ![0, 0] S8x1024.size i0))⟩]
        (Rect.unit (s := S16x1024) ![r, o] S1x128.size i2).toLoadRect : Vec Ideal S1x128 .f32) (ix2 0 l)
      = Rows.cum8 (fun s => Rows.pad8 (fun s => headRow (argF m c) (seqOf t) ⟨n, hn⟩ s l) s) ⟨r, hr⟩ := by
  subst ho
  rw [View.readCov_eq_canon']
  have e : (Rect.unit (s := S16x1024) ![r, 128 * n] S1x128.size i2).toLoadRect.idx (ix2 0 l) = (Rect.unit (s := S16x1024) ![0, 0] S8x1024.size i1).emb (ix2 ⟨r, hr⟩ ⟨128 * n + l.val, by omega⟩) := by
    funext a
    refine Fin.ext ?_
    fin_cases a <;> simp
  show View.canon _ (_ : S16x1024.Idx) = _
  rw [e, View.canon_cons_emb]
  unfold k0_pay19
  pointwise
  exact logs_head m c t n _ hn rfl i0 ⟨r, hr⟩ _ l rfl

/-- The head's state before the steps. -/
theorem state_head (c : Dev nD) (t : Fin cfg0.N) (n : Nat) (hn : n < 8) (i3) (j l : Fin 128) :
    k0_pay16 (View.ld (iblk m c 6 t) (Rect.unit (s := S1x8x128x128) ![0, n, 0, 0] S1x1x128x128.size i3)) (ix3 0 l j) = argS m c (ix4 (seqOf t) ⟨n, hn⟩ j l) := by
  rw [pay16_apply, View.ld_unit_apply_of _ _ _ i3 (ix4 0 0 j l) (ix4 0 ⟨n, hn⟩ j l) (fun a => by fin_cases a <;> simp), ib6]
  rfl

/-- One head's stored state. -/
theorem state_piece (c : Dev nD) (t : Fin cfg0.N) (n o : Nat) (hn : n < 8) (ho : o = 128 * n) (i0 i1 i3) (hs : S8x1024.Slices ![0, o] S8x128)
    (y : S1x8x128x128.Idx) (x : S1x1x128x128.Idx) (h1 : (y 1).val = n) (h2 : (y 2).val = (x 2).val) (h3 : (y 3).val = (x 3).val) :
    headState (extractStridedSlice S8x128 ![0, o] (k0_pay18 (View.ld (iblk m c 3 t) (Rect.unit (s := S16x1024) ![0, 0] S8x1024.size i0))) hs)
        (View.ld (iblk m c 1 t) (Rect.unit (s := S16x1024) ![0, o] S8x128.size i1))
        (k0_pay16 (View.ld (iblk m c 6 t) (Rect.unit (s := S1x8x128x128) ![0, n, 0, 0] S1x1x128x128.size i3)))
        (View.ld (iblk m c 2 t) (Rect.unit (s := S16x1024) ![0, o] S8x128.size i1)) x
      = state (argK m c) (argV m c) (argF m c) (argS m c) (ix4 (seqOf t) (y 1) (y 2) (y 3)) := by
  obtain ⟨j, l, rfl⟩ : ∃ j l : Fin 128, x = ix4 0 0 j l := ⟨x 2, x 3, (eq_ix4 x).trans (by congr 1 <;> exact Subsingleton.elim (α := Fin 1) _ _)⟩
  obtain ⟨e1, e2, e3⟩ : y 1 = ⟨n, hn⟩ ∧ y 2 = j ∧ y 3 = l := ⟨Fin.ext h1, Fin.ext h2, Fin.ext h3⟩
  rw [headState_apply, e1, e2, e3, state_head m c t n hn]
  simp only [logs_slice m c t n o hn ho, ld_head (ib1 m c t) n o hn ho, ld_head (ib2 m c t) n o hn ho]
  exact Rows.kerState_pad (headRow (argK m c) (seqOf t) ⟨n, hn⟩) (headRow (argV m c) (seqOf t) ⟨n, hn⟩) (headRow (argF m c) (seqOf t) ⟨n, hn⟩) (fun j l => argS m c (ix4 (seqOf t) ⟨n, hn⟩ j l)) j l

/-- What point `t` leaves in its state block. -/
theorem block8 (c : Dev nD) (t : Fin cfg0.N) : (outsAt0 m c t).2 = fun y => state (argK m c) (argV m c) (argF m c) (argS m c) (ix4 (seqOf t) (y 1) (y 2) (y 3)) := by
  frame_out
  simp (disch := decide) only [↓View.readCov_skip, ↓View.readCov_cons_toLoadRect]
  funext y
  canon_tiles x h
  case piece0 => exact state_piece m c t 7 896 (by decide) rfl _ _ _ slices_S8x1024_o0_896_S8x128 y x (by omega) h2 h3
  case piece1 => exact state_piece m c t 6 768 (by decide) rfl _ _ _ slices_S8x1024_o0_768_S8x128 y x (by omega) h2 h3
  case piece2 => exact state_piece m c t 5 640 (by decide) rfl _ _ _ slices_S8x1024_o0_640_S8x128 y x (by omega) h2 h3
  case piece3 => exact state_piece m c t 4 512 (by decide) rfl _ _ _ slices_S8x1024_o0_512_S8x128 y x (by omega) h2 h3
  case piece4 => exact state_piece m c t 3 384 (by decide) rfl _ _ _ slices_S8x1024_o0_384_S8x128 y x (by omega) h2 h3
  case piece5 => exact state_piece m c t 2 256 (by decide) rfl _ _ _ slices_S8x1024_o0_256_S8x128 y x (by omega) h2 h3
  case piece6 => exact state_piece m c t 1 128 (by decide) rfl _ _ _ slices_S8x1024_o0_128_S8x128 y x (by omega) h2 h3
  case piece7 => exact state_piece m c t 0 0 (by decide) rfl _ _ _ slices_S8x1024_o0_0_S8x128 y x (by omega) h2 h3

/-- The output array at an entry. -/
theorem out_apply (q k v f t : FVec Ideal S32x4x1024 .f32) (g : FVec Ideal S1024 .f32) (s : FVec Ideal S32x8x128x128 .f32) (i : Fin 32) (a : Fin 16) (h : Fin 8) (l : Fin 128) :
    out q k v f t g s (ix2 ⟨i.val * 16 + a.val, by omega⟩ ⟨128 * h.val + l.val, by omega⟩) = if hr : a.val < 4 then outAt q k v f t g s i h ⟨a.val, hr⟩ l else 0 := by
  have e1 : (i.val * 16 + a.val) % 16 = a.val := by omega
  have e2 : (i.val * 16 + a.val) / 16 = i.val := by omega
  have e3 : (128 * h.val + l.val) / 128 = h.val := by omega
  have e4 : (128 * h.val + l.val) % 128 = l.val := by omega
  unfold out
  simp only [ix2_0, ix2_1, e1, e2, e3, e4]

/-- The head's gains. -/
theorem ld_gain (c : Dev nD) (t : Fin cfg0.N) (n o : Nat) (hn : n < 8) (ho : o = 128 * n) (i4) (l : Fin 128) :
    View.ld (iblk m c 5 t) (Rect.unit (s := S1x1024) ![0, o] S1x128.size i4) (ix2 0 l) = argG m c (ix1 ⟨128 * n + l.val, by omega⟩) := by
  subst ho
  rw [View.ld_unit_apply_of _ _ _ i4 (ix2 0 l) (ix2 0 ⟨128 * n + l.val, by omega⟩) (fun a => by fin_cases a <;> simp), ib5]

/-- One head's stored output. -/
theorem out_piece (c : Dev nD) (t : Fin cfg0.N) (n o : Nat) (hn : n < 8) (ho : o = 128 * n) (i0 i1 i3 i4 j0) (hs : S8x1024.Slices ![0, o] S8x128)
    (r0 r1 r2 r3)
    (y : S16x1024.Idx) (x : S16x128.Idx) (h0 : (y 0).val = (x 0).val) (h1 : (y 1).val = o + (x 1).val) :
    headOut (headPre (extractStridedSlice S8x128 ![0, o] (k0_pay18 (View.ld (iblk m c 3 t) (Rect.unit (s := S16x1024) ![0, 0] S8x1024.size i0))) hs)
        (View.ld (iblk m c 0 t) (Rect.unit (s := S16x1024) ![0, o] S8x128.size i1))
        (k0_pay16 (View.ld (iblk m c 6 t) (Rect.unit (s := S1x8x128x128) ![0, n, 0, 0] S1x1x128x128.size i3)))
        (View.readCov (Val := Elt Ideal) (View.whole cc0_scratch1) [⟨Rect.unit (s := S16x1024) ![0, 0] S8x1024.size j0, k0_pay19 (View.ld (iblk m c 3 t) (Rect.unit (s := S16x1024) ![0, 0] S8x1024.size i0))⟩] (Rect.unit (s := S16x1024) ![0, o] S1x128.size r0).toLoadRect)
        (View.ld (iblk m c 1 t) (Rect.unit (s := S16x1024) ![0, o] S1x128.size r0)) (View.ld (iblk m c 2 t) (Rect.unit (s := S16x1024) ![0, o] S1x128.size r0))
        (View.readCov (Val := Elt Ideal) (View.whole cc0_scratch1) [⟨Rect.unit (s := S16x1024) ![0, 0] S8x1024.size j0, k0_pay19 (View.ld (iblk m c 3 t) (Rect.unit (s := S16x1024) ![0, 0] S8x1024.size i0))⟩] (Rect.unit (s := S16x1024) ![1, o] S1x128.size r1).toLoadRect)
        (View.ld (iblk m c 1 t) (Rect.unit (s := S16x1024) ![1, o] S1x128.size r1)) (View.ld (iblk m c 2 t) (Rect.unit (s := S16x1024) ![1, o] S1x128.size r1))
        (View.readCov (Val := Elt Ideal) (View.whole cc0_scratch1) [⟨Rect.unit (s := S16x1024) ![0, 0] S8x1024.size j0, k0_pay19 (View.ld (iblk m c 3 t) (Rect.unit (s := S16x1024) ![0, 0] S8x1024.size i0))⟩] (Rect.unit (s := S16x1024) ![2, o] S1x128.size r2).toLoadRect)
        (View.ld (iblk m c 1 t) (Rect.unit (s := S16x1024) ![2, o] S1x128.size r2)) (View.ld (iblk m c 2 t) (Rect.unit (s := S16x1024) ![2, o] S1x128.size r2))
        (View.readCov (Val := Elt Ideal) (View.whole cc0_scratch1) [⟨Rect.unit (s := S16x1024) ![0, 0] S8x1024.size j0, k0_pay19 (View.ld (iblk m c 3 t) (Rect.unit (s := S16x1024) ![0, 0] S8x1024.size i0))⟩] (Rect.unit (s := S16x1024) ![3, o] S1x128.size r3).toLoadRect)
        (View.ld (iblk m c 1 t) (Rect.unit (s := S16x1024) ![3, o] S1x128.size r3)) (View.ld (iblk m c 2 t) (Rect.unit (s := S16x1024) ![3, o] S1x128.size r3)))
      (View.ld (iblk m c 5 t) (Rect.unit (s := S1x1024) ![0, o] S1x128.size i4)) (View.ld (iblk m c 4 t) (Rect.unit (s := S16x1024) ![0, o] S8x128.size i1)) x
      = outBlk m c t y := by
  obtain ⟨r, l, rfl⟩ : ∃ (r : Fin 16) (l : Fin 128), x = ix2 r l := ⟨x 0, x 1, eq_ix2 x⟩
  obtain ⟨a, b, rfl⟩ : ∃ (a : Fin 16) (b : Fin 1024), y = ix2 a b := ⟨y 0, y 1, eq_ix2 y⟩
  obtain rfl : a = r := Fin.ext h0
  have hb : b.val = 128 * n + l.val := by have : b.val = o + l.val := h1; omega
  have e := headPre_apply _ _ _ _ _ _ _ _ _ _ _ _ _ _ _
    (ld_head (ib0 m c t) n o hn ho i1) (logs_slice m c t n o hn ho i0 hs) (state_head m c t n hn i3)
    (logs_back m c t n o hn ho i0 j0 0 (by decide) r0) (logs_back m c t n o hn ho i0 j0 1 (by decide) r1) (logs_back m c t n o hn ho i0 j0 2 (by decide) r2) (logs_back m c t n o hn ho i0 j0 3 (by decide) r3)
    (ld_row (ib1 m c t) n o hn ho 0 (by decide) r0) (ld_row (ib1 m c t) n o hn ho 1 (by decide) r1) (ld_row (ib1 m c t) n o hn ho 2 (by decide) r2) (ld_row (ib1 m c t) n o hn ho 3 (by decide) r3)
    (K := headRow (argK m c) (seqOf t) ⟨n, hn⟩) (V := headRow (argV m c) (seqOf t) ⟨n, hn⟩)
    (ld_row (ib2 m c t) n o hn ho 0 (by decide) r0) (ld_row (ib2 m c t) n o hn ho 1 (by decide) r1) (ld_row (ib2 m c t) n o hn ho 2 (by decide) r2) (ld_row (ib2 m c t) n o hn ho 3 (by decide) r3)
  show _ = out _ _ _ _ _ _ _ (ix2 ⟨t.val * 16 + a.val, _⟩ b)
  rw [show b = ⟨128 * n + l.val, by omega⟩ from Fin.ext hb]
  refine Eq.trans ?_ (out_apply _ _ _ _ _ _ _ (seqOf t) a ⟨n, hn⟩ l).symm
  refine headOut_pad _ _ _ (fun r d => (e r d).trans ?_) (ld_gain m c t n o hn ho i4) (ld_head (ib4 m c t) n o hn ho i1) a l
  exact Rows.kerPre_pad (headRow (argQ m c) (seqOf t) ⟨n, hn⟩) (headRow (argK m c) (seqOf t) ⟨n, hn⟩) (headRow (argV m c) (seqOf t) ⟨n, hn⟩) (headRow (argF m c) (seqOf t) ⟨n, hn⟩) (fun j l => argS m c (ix4 (seqOf t) ⟨n, hn⟩ j l)) r d

set_option maxHeartbeats 4000000 in
/-- What point `t` leaves in its output block. -/
theorem block7 (c : Dev nD) (t : Fin cfg0.N) : (outsAt0 m c t).1 = outBlk m c t := by
  frame_out
  simp (disch := decide) only [↓View.readCov_skip, ↓View.readCov_cons_toLoadRect]
  funext y
  canon_tiles x h
  case piece0 => exact out_piece m c t 7 896 (by decide) rfl _ _ _ _ _ slices_S8x1024_o0_896_S8x128 _ _ _ _ y x h0 (by omega)
  case piece1 => exact out_piece m c t 6 768 (by decide) rfl _ _ _ _ _ slices_S8x1024_o0_768_S8x128 _ _ _ _ y x h0 (by omega)
  case piece2 => exact out_piece m c t 5 640 (by decide) rfl _ _ _ _ _ slices_S8x1024_o0_640_S8x128 _ _ _ _ y x h0 (by omega)
  case piece3 => exact out_piece m c t 4 512 (by decide) rfl _ _ _ _ _ slices_S8x1024_o0_512_S8x128 _ _ _ _ y x h0 (by omega)
  case piece4 => exact out_piece m c t 3 384 (by decide) rfl _ _ _ _ _ slices_S8x1024_o0_384_S8x128 _ _ _ _ y x h0 (by omega)
  case piece5 => exact out_piece m c t 2 256 (by decide) rfl _ _ _ _ _ slices_S8x1024_o0_256_S8x128 _ _ _ _ y x h0 (by omega)
  case piece6 => exact out_piece m c t 1 128 (by decide) rfl _ _ _ _ _ slices_S8x1024_o0_128_S8x128 _ _ _ _ y x h0 (by omega)
  case piece7 => exact out_piece m c t 0 0 (by decide) rfl _ _ _ _ _ slices_S8x1024_o0_0_S8x128 _ _ _ _ y x h0 (by omega)

/-- The output array ends holding the outputs -/
theorem final7 (c : Dev nD) : (dats m 0 c).arrAt 7 cfg0.N = out (argQ m c) (argK m c) (argV m c) (argF m c) (argT m c) (argG m c) (argS m c) := by
  refine (dats m 0 c).arrAt_eq_of_covers 7 _ (by decide +kernel) fun t hf y => ?_
  blk_simp
  rw [after0_7, block7]
  refine congrArg (out _ _ _ _ _ _ _) ?_
  obtain ⟨a, b, rfl⟩ : ∃ (a : Fin 16) (b : Fin 1024), y = ix2 a b := ⟨y 0, y 1, eq_ix2 y⟩
  blk_ext [idx t]

/-- and the state array the states. -/
theorem final8 (c : Dev nD) : (dats m 0 c).arrAt 8 cfg0.N = state (argK m c) (argV m c) (argF m c) (argS m c) := by
  refine (dats m 0 c).arrAt_eq_of_covers 8 _ (by decide +kernel) fun t hf y => ?_
  blk_simp
  rw [after0_8, block8]
  refine congrArg (state _ _ _ _) ?_
  obtain ⟨a, b, d, e, rfl⟩ : ∃ (a : Fin 1) (b : Fin 8) (d e : Fin 128), y = ix4 a b d e := ⟨y 0, y 1, y 2, y 3, eq_ix4 y⟩
  blk_ext [idx t]
  rfl

end Cert.GlaIdeal.RefValue

end
-- ==== Proof.GlaRefValue.lean ====
/-
  The reference's gated linear attention over four steps, read position by position: its two results are the functions
  of the arguments that the kernel's arrays were found to be.
-/
module

public import proofs.«01_k».proof.Proof.GlaValue
public import proofs.«01_k».proof.Proof.Gen.GlaRefIdeal.Run

@[expose] public section

set_option maxRecDepth 16384

noncomputable section

open Idealize.ShloMosaic Idealize.ShloMosaic.TcCoe Idealize.SL.Sem

namespace Cert.GlaRefIdeal.RefValue

open Cert.GlaRefIdeal Cert.GlaRefIdeal.Gen

/-- An argument's rows split into heads, -/
def heads (x : FVec Ideal S32x4x1024 .f32) : FVec Ideal S32x8x4x128 .f32 :=
  transpose S32x8x4x128 [0, 2, 1, 3] (shapeCast _ x shapeCasts_S32x4x1024_S32x4x8x128) transposes_S32x4x8x128_S32x8x4x128_0_2_1_3

/-- a head's row being its columns of the argument's row. -/
theorem heads_apply (x : FVec Ideal S32x4x1024 .f32) (i : Fin 32) (h : Fin 8) (r : Fin 4) (j : Fin 128) :
    heads x (ix4 i h r j) = GlaIdeal.RefValue.headRow x i h r j := by
  unfold heads
  have e : (⟨h.val * 128 + j.val, by omega⟩ : Fin 1024) = ⟨128 * h.val + j.val, by omega⟩ := Fin.ext (by simp only; omega)
  pointwise [GlaIdeal.RefValue.headRow, e]

/-- The running sums of the logarithms of the gates along the four steps, -/
def cum (f : FVec Ideal S32x4x1024 .f32) : FVec Ideal S32x8x4x128 .f32 :=
  Host.reduceWindowAdd ![1, 1, 4, 1] ![1, 1, 1, 1] ![0, 0, 3, 0] ![0, 0, 0, 0] (heads f) (broadcastInDim S_ ![] bcast_S_S_ (constant S_ .f32 0x00000000#32)) reduceWindows_S32x8x4x128_S32x8x4x128_w1s1p0_0_w1s1p0_0_w4s1p3_0_w1s1p0_0 h_S_

/-- up to and with step `r`. -/
theorem cum_apply (f : FVec Ideal S32x4x1024 .f32) (i : Fin 32) (h : Fin 8) (r : Fin 4) (j : Fin 128) :
    cum f (ix4 i h r j) = Rows.cum4 (fun s => GlaIdeal.RefValue.headRow f i h s j) r := by
  unfold cum
  rw [Rows.running4 _ _ _ _ (by pointwise)]
  simp only [heads_apply]

/-- The state after the four steps, -/
def state (k v f : FVec Ideal S32x4x1024 .f32) (s : FVec Ideal S32x8x128x128 .f32) : FVec Ideal S32x8x128x128 .f32 :=
  addf (mulf (broadcastInDim S32x8x128x128 ![0, 1, 2, 3] bcast_S32x8x128x1_S32x8x128x128_0_1_2_3 (Host.exp (broadcastInDim S32x8x128x1 ![0, 1, 2] bcast_S32x8x128_S32x8x128x1_0_1_2 (shapeCast _ (extractStridedSlice S32x8x1x128 ![0, 0, 3, 0] (cum f) slices_S32x8x4x128_S32x8x1x128_0_0_3_0) shapeCasts_S32x8x1x128_S32x8x128)))) s) (Host.dotGeneral dot_S32x8x4x128_S32x8x4x128_S32x8x128x128_2_2_3_3_01_01 none (mulf (heads k) (Host.exp (subf (broadcastInDim S32x8x4x128 ![0, 1, 2, 3] bcast_S32x8x1x128_S32x8x4x128_0_1_2_3 (extractStridedSlice S32x8x1x128 ![0, 0, 3, 0] (cum f) slices_S32x8x4x128_S32x8x1x128_0_0_3_0)) (cum f)))) (heads v))

/-- which is the kernel's. -/
theorem state_eq (k v f : FVec Ideal S32x4x1024 .f32) (s : FVec Ideal S32x8x128x128 .f32) :
    state k v f s = GlaIdeal.RefValue.state k v f s := by
  funext i
  obtain ⟨i, h, j, l, rfl⟩ : ∃ (a : Fin 32) (b : Fin 8) (c d : Fin 128), i = ix4 a b c d := ⟨i 0, i 1, i 2, i 3, eq_ix4 i⟩
  unfold state
  pointwise [dot_S32x8x4x128_S32x8x4x128_S32x8x128x128_2_2_3_3_01_01, heads_apply, cum_apply, GlaIdeal.RefValue.state, Rows.glaState]

/-- A row of a head at each later step, and at each earlier step. -/
def later (y : FVec Ideal S32x8x4x128 .f32) : FVec Ideal S32x8x4x4x128 .f32 :=
  broadcastInDim S32x8x4x4x128 ![0, 1, 2, 3, 4] bcast_S32x8x4x1x128_S32x8x4x4x128_0_1_2_3_4 (broadcastInDim S32x8x4x1x128 ![0, 1, 2, 4] bcast_S32x8x4x128_S32x8x4x1x128_0_1_2_4 y)
def earlier (y : FVec Ideal S32x8x4x128 .f32) : FVec Ideal S32x8x4x4x128 .f32 :=
  broadcastInDim S32x8x4x4x128 ![0, 1, 2, 3, 4] bcast_S32x8x1x4x128_S32x8x4x4x128_0_1_2_3_4 (broadcastInDim S32x8x1x4x128 ![0, 1, 3, 4] bcast_S32x8x4x128_S32x8x1x4x128_0_1_3_4 y)

theorem later_apply (y : FVec Ideal S32x8x4x128 .f32) (i : Fin 32) (h : Fin 8) (r s : Fin 4) (j : Fin 128) : later y (ix5 i h r s j) = y (ix4 i h r j) := by
  unfold later
  pointwise
theorem earlier_apply (y : FVec Ideal S32x8x4x128 .f32) (i : Fin 32) (h : Fin 8) (r s : Fin 4) (j : Fin 128) : earlier y (ix5 i h r s j) = y (ix4 i h s j) := by
  unfold earlier
  pointwise

/-- Which step comes no later than which. -/
def mask : IVec S4x4 1 :=
  select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))

theorem mask_apply (r s : Fin 4) : mask (ix2 r s) = if s.val ≤ r.val then 1#1 else 0#1 := by
  revert r s
  decide +kernel

/-- The mask at every sequence, head and column. -/
def masks : IVec S32x8x4x4x128 1 :=
  broadcastInDim S32x8x4x4x128 ![2, 3, 4] bcast_S4x4x1_S32x8x4x4x128_2_3_4 (broadcastInDim S4x4x1 ![0, 1] bcast_S4x4_S4x4x1_0_1 mask)

theorem masks_apply (i : Fin 32) (h : Fin 8) (r s : Fin 4) (j : Fin 128) : masks (ix5 i h r s j) = if s.val ≤ r.val then 1#1 else 0#1 := by
  unfold masks
  rw [← mask_apply]
  pointwise

/-- How much of step `s` is left at step `r`, -/
def decay (f : FVec Ideal S32x4x1024 .f32) : FVec Ideal S32x8x4x4x128 .f32 :=
  Host.exp (select masks (subf (later (cum f)) (earlier (cum f))) (broadcastInDim S32x8x4x4x128 ![] bcast_S_S32x8x4x4x128 (id (constant S_ .f32 0xFF800000#32))))

/-- nothing if `s` comes later. -/
theorem decay_apply (f : FVec Ideal S32x4x1024 .f32) (i : Fin 32) (h : Fin 8) (r s : Fin 4) (j : Fin 128) :
    decay f (ix5 i h r s j) = Ideal.exp (if s.val ≤ r.val then Rows.cum4 (fun s => GlaIdeal.RefValue.headRow f i h s j) r
      - Rows.cum4 (fun s => GlaIdeal.RefValue.headRow f i h s j) s else ⊥) := by
  have hb : Ideal.ofBits .f32 4286578688#32 = ⊥ := by simp [Ideal.ofBits, Ideal.ieee]
  unfold decay
  by_cases hs : s.val ≤ r.val
  · pointwise [masks_apply, later_apply, earlier_apply, cum_apply, hs]
  · pointwise [masks_apply, later_apply, earlier_apply, cum_apply, hs]
    exact congrArg Ideal.exp hb

/-- The weights of the earlier steps. -/
def att (q k f : FVec Ideal S32x4x1024 .f32) : FVec Ideal S32x8x4x4 .f32 :=
  Host.reduceAdd (mulf (mulf (later (heads q)) (earlier (heads k))) (decay f)) (constant S_ .f32 0x00000000#32) reducesTo_S32x8x4x4x128_S32x8x4x4_d4 h_S_

theorem att_apply (q k f : FVec Ideal S32x4x1024 .f32) (i : Fin 32) (h : Fin 8) (r s : Fin 4) :
    att q k f (ix4 i h r s) = ∑ j : Fin 128, GlaIdeal.RefValue.headRow q i h r j * GlaIdeal.RefValue.headRow k i h s j
      * Ideal.exp (if s.val ≤ r.val then Rows.cum4 (fun s => GlaIdeal.RefValue.headRow f i h s j) r
          - Rows.cum4 (fun s => GlaIdeal.RefValue.headRow f i h s j) s else ⊥) := by
  unfold att
  pointwise [later_apply, earlier_apply, heads_apply, decay_apply]

/-- The heads' outputs before their norm. -/
def pre (q k v f : FVec Ideal S32x4x1024 .f32) (s : FVec Ideal S32x8x128x128 .f32) : FVec Ideal S32x8x4x128 .f32 :=
  addf (Host.dotGeneral dot_S32x8x4x128_S32x8x128x128_S32x8x4x128_3_2_2_3_01_01 none (mulf (heads q) (Host.exp (cum f))) s) (Host.dotGeneral dot_S32x8x4x4_S32x8x4x128_S32x8x4x128_3_2_2_3_01_01 none (att q k f) (heads v))

theorem pre_apply (q k v f : FVec Ideal S32x4x1024 .f32) (s : FVec Ideal S32x8x128x128 .f32) (i : Fin 32) (h : Fin 8) (r : Fin 4) (l : Fin 128) :
    pre q k v f s (ix4 i h r l) = Rows.glaPre (GlaIdeal.RefValue.headRow q i h) (GlaIdeal.RefValue.headRow k i h) (GlaIdeal.RefValue.headRow v i h)
      (GlaIdeal.RefValue.headRow f i h) (fun j l => s (ix4 i h j l)) r l := by
  unfold pre
  pointwise [dot_S32x8x4x128_S32x8x128x128_S32x8x4x128_3_2_2_3_01_01, dot_S32x8x4x4_S32x8x4x128_S32x8x4x128_3_2_2_3_01_01, heads_apply, cum_apply, att_apply, Rows.glaPre]

/-- The heads' outputs, normalized and scaled by the gain, -/
def normed (q k v f : FVec Ideal S32x4x1024 .f32) (g : FVec Ideal S1024 .f32) (s : FVec Ideal S32x8x128x128 .f32) : FVec Ideal S32x8x4x128 .f32 :=
  mulf (mulf (pre q k v f s) (broadcastInDim S32x8x4x128 ![0, 1, 2, 3] bcast_S32x8x4x1_S32x8x4x128_0_1_2_3 (Host.rsqrt (addf (Host.divf (broadcastInDim S32x8x4x1 ![0, 1, 2] bcast_S32x8x4_S32x8x4x1_0_1_2 (Host.reduceAdd (mulf (pre q k v f s) (pre q k v f s)) (constant S_ .f32 0x00000000#32) reducesTo_S32x8x4x128_S32x8x4_d3 h_S_)) (broadcastInDim S32x8x4x1 ![] bcast_S_S32x8x4x1 (constant S_ .f32 0x43000000#32))) (broadcastInDim S32x8x4x1 ![] bcast_S_S32x8x4x1 (constant S_ .f32 0x358637BD#32)))))) (broadcastInDim S32x8x4x128 ![0, 1, 2, 3] bcast_S1x8x1x128_S32x8x4x128_0_1_2_3 (broadcastInDim S1x8x1x128 ![1, 3] bcast_S8x128_S1x8x1x128_1_3 (shapeCast _ g shapeCasts_S1024_S8x128)))

/-- and gated, side by side again. -/
def gated (q k v f t : FVec Ideal S32x4x1024 .f32) (g : FVec Ideal S1024 .f32) (s : FVec Ideal S32x8x128x128 .f32) : FVec Ideal S32x4x1024 .f32 :=
  mulf (shapeCast _ (transpose S32x4x8x128 [0, 2, 1, 3] (normed q k v f g s) transposes_S32x8x4x128_S32x4x8x128_0_2_1_3) shapeCasts_S32x4x8x128_S32x4x1024) t

theorem gated_apply (q k v f t : FVec Ideal S32x4x1024 .f32) (g : FVec Ideal S1024 .f32) (s : FVec Ideal S32x8x128x128 .f32) (i : Fin 32) (r : Fin 4) (h : Fin 8) (l : Fin 128) :
    gated q k v f t g s (ix3 i r ⟨128 * h.val + l.val, by omega⟩) = GlaIdeal.RefValue.outAt q k v f t g s i h r l := by
  have hn : ∀ d : Fin 128, normed q k v f g s (ix4 i h r d) = pre q k v f s (ix4 i h r d) * Ideal.rsqrt (Ideal.div (∑ e, pre q k v f s (ix4 i h r e) * pre q k v f s (ix4 i h r e)) (Ideal.ofBits .f32 0x43000000#32) + Ideal.ofBits .f32 0x358637BD#32)
      * g (ix1 ⟨128 * h.val + d.val, by omega⟩) := by
    intro d
    have e : (⟨h.val * 128 + d.val, by omega⟩ : Fin 1024) = ⟨128 * h.val + d.val, by omega⟩ := Fin.ext (by simp only; omega)
    unfold normed
    pointwise [e]
  have hc : shapeCast S32x4x1024 (transpose S32x4x8x128 [0, 2, 1, 3] (normed q k v f g s) transposes_S32x8x4x128_S32x4x8x128_0_2_1_3) shapeCasts_S32x4x8x128_S32x4x1024 (ix3 i r ⟨128 * h.val + l.val, by omega⟩) = normed q k v f g s (ix4 i h r l) := by
    pointwise
  show shapeCast S32x4x1024 (transpose S32x4x8x128 [0, 2, 1, 3] (normed q k v f g s) transposes_S32x8x4x128_S32x4x8x128_0_2_1_3) shapeCasts_S32x4x8x128_S32x4x1024 (ix3 i r ⟨128 * h.val + l.val, by omega⟩) * t (ix3 i r ⟨128 * h.val + l.val, by omega⟩) = _
  rw [hc, hn]
  simp only [pre_apply]
  rfl

/-- The output: the gated rows of each sequence, padded with zero rows to sixteen. -/
def out (q k v f t : FVec Ideal S32x4x1024 .f32) (g : FVec Ideal S1024 .f32) (s : FVec Ideal S32x8x128x128 .f32) : FVec Ideal S512x1024 .bf16 :=
  truncf .bf16 (shapeCast _ (pad S32x16x1024 ![0, 0, 0] ![0, 12, 0] ![0, 0, 0] (gated q k v f t g s) (sitofp .f32 (constantI S_ 32 0#32)) pads_S32x4x1024_S32x16x1024_000_0120_000 h_S_) shapeCasts_S32x16x1024_S512x1024) bitsLt_bf16_f32

theorem out_apply (q k v f t : FVec Ideal S32x4x1024 .f32) (g : FVec Ideal S1024 .f32) (s : FVec Ideal S32x8x128x128 .f32) (i : Fin 32) (a : Fin 16) (h : Fin 8) (l : Fin 128) :
    out q k v f t g s (ix2 ⟨i.val * 16 + a.val, by omega⟩ ⟨128 * h.val + l.val, by omega⟩) = if hr : a.val < 4 then GlaIdeal.RefValue.outAt q k v f t g s i h ⟨a.val, hr⟩ l else 0 := by
  unfold out
  by_cases hr : a.val < 4
  · rw [dif_pos hr, ← gated_apply]
    pointwise [hr]
    exact dif_pos (by omega)
  · rw [dif_neg hr, ← GlaIdeal.RefValue.zero_int]
    pointwise [hr]
    exact dif_neg (fun q => q.1)

theorem out_eq (q k v f t : FVec Ideal S32x4x1024 .f32) (g : FVec Ideal S1024 .f32) (s : FVec Ideal S32x8x128x128 .f32) :
    out q k v f t g s = GlaIdeal.RefValue.out q k v f t g s := by
  funext i
  obtain ⟨R, C, rfl⟩ : ∃ (R : Fin 512) (C : Fin 1024), i = ix2 R C := ⟨i 0, i 1, eq_ix2 i⟩
  have hR : R = ⟨(⟨R.val / 16, by omega⟩ : Fin 32).val * 16 + (⟨R.val % 16, by omega⟩ : Fin 16).val, by have := R.isLt; simp only; omega⟩ := Fin.ext (by simp only; omega)
  have hC : C = ⟨128 * (⟨C.val / 128, by omega⟩ : Fin 8).val + (⟨C.val % 128, by omega⟩ : Fin 128).val, by have := C.isLt; simp only; omega⟩ := Fin.ext (by simp only; omega)
  rw [hR, hC, out_apply]
  exact (GlaIdeal.RefValue.out_apply q k v f t g s _ _ _ _).symm

end Cert.GlaRefIdeal.RefValue

end
-- ==== Proof.GlaClaims.lean ====
/-
  The recurrent layer's gated linear attention, four steps of 32 sequences at a time.
-/
module

public import proofs.«01_k».proof.Defs
public import proofs.«01_k».proof.Proof.GlaRefValue
public import proofs.«01_k».proof.Proof.Gen.Gla.Frame
public import proofs.«01_k».proof.Proof.Gen.GlaIdeal.Value
public import proofs.«01_k».proof.Proof.Gen.GlaRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Proof.GlaClaims

/-- The frames: the kernel's two programs leave their arguments as launched, by their generated runs, -/
theorem frame_p : Cert.quiescent_Gla := fun m ρ _ => Cert.Gla.Gen.frame m ρ
theorem frame_pi : Cert.quiescent_GlaIdeal := fun m ρ _ => Cert.GlaIdeal.Gen.frame m ρ
/-- and so does the reference. -/
theorem frame_ri : Cert.quiescent_GlaRefIdeal := fun m ρ _ =>
  (θ_run Cert.GlaRefIdeal.defs _ _).mono (fun r h => ⟨fun c => (h c).2.2,
      Idealize.ShloMosaic.sem_eq_zero_of_no_sems (by decide) r.2⟩)
    (Cert.GlaRefIdeal.Value.run (F := Ideal) m ρ)

/-- The one named constant: the kernel's base-two logarithm of e stands for one over the natural logarithm of two. -/
theorem preserves : Cert.preserves_Gla_GlaIdeal :=
  IdealRules.named_const.statement Cert.GlaIdeal.κ "log2e" .f32 0x3FB8AA3B#32 (((Real.log 2)⁻¹ : ℝ) : EReal) rfl

/-- On the extended reals the kernel's two results are the reference's. -/
theorem algebraic : Cert.algebraic_GlaIdeal_GlaRefIdeal := by
  intro m ρ m' ρ' _ hagree
  refine ⟨fun c => GlaIdeal.RefValue.out (GlaIdeal.RefValue.argQ m c) (GlaIdeal.RefValue.argK m c) (GlaIdeal.RefValue.argV m c) (GlaIdeal.RefValue.argF m c) (GlaIdeal.RefValue.argT m c) (GlaIdeal.RefValue.argG m c) (GlaIdeal.RefValue.argS m c),
    fun c => GlaIdeal.RefValue.state (GlaIdeal.RefValue.argK m c) (GlaIdeal.RefValue.argV m c) (GlaIdeal.RefValue.argF m c) (GlaIdeal.RefValue.argS m c), ?_, ?_⟩
  · exact (θ_run Cert.GlaIdeal.defs _ _).mono
      (fun _ h c => ⟨(h c).1.trans (GlaIdeal.RefValue.final7 m c), (h c).2.1.trans (GlaIdeal.RefValue.final8 m c), (h c).2.2⟩)
      (Cert.GlaIdeal.Value.run_blocks (F := Ideal) m ρ)
  have e : ∀ c, GlaIdeal.RefValue.argQ m c = m' ((c.tc : Thread Cert.GlaRefIdeal.nD Cert.GlaRefIdeal.τ).loc Cert.GlaRefIdeal.main_arg0)
      ∧ GlaIdeal.RefValue.argK m c = m' ((c.tc : Thread Cert.GlaRefIdeal.nD Cert.GlaRefIdeal.τ).loc Cert.GlaRefIdeal.main_arg1)
      ∧ GlaIdeal.RefValue.argV m c = m' ((c.tc : Thread Cert.GlaRefIdeal.nD Cert.GlaRefIdeal.τ).loc Cert.GlaRefIdeal.main_arg2)
      ∧ GlaIdeal.RefValue.argF m c = m' ((c.tc : Thread Cert.GlaRefIdeal.nD Cert.GlaRefIdeal.τ).loc Cert.GlaRefIdeal.main_arg3)
      ∧ GlaIdeal.RefValue.argT m c = m' ((c.tc : Thread Cert.GlaRefIdeal.nD Cert.GlaRefIdeal.τ).loc Cert.GlaRefIdeal.main_arg4)
      ∧ GlaIdeal.RefValue.argG m c = m' ((c.tc : Thread Cert.GlaRefIdeal.nD Cert.GlaRefIdeal.τ).loc Cert.GlaRefIdeal.main_arg5)
      ∧ GlaIdeal.RefValue.argS m c = m' ((c.tc : Thread Cert.GlaRefIdeal.nD Cert.GlaRefIdeal.τ).loc Cert.GlaRefIdeal.main_arg6) := fun c =>
    ⟨(hagree c).1.symm, (hagree c).2.1.symm, (hagree c).2.2.1.symm, (hagree c).2.2.2.1.symm, (hagree c).2.2.2.2.1.symm, (hagree c).2.2.2.2.2.1.symm, (hagree c).2.2.2.2.2.2.symm⟩
  simp only [e]
  exact (θ_run Cert.GlaRefIdeal.defs _ _).mono (fun _ h c => ⟨(h c).1.trans (GlaRefIdeal.RefValue.out_eq _ _ _ _ _ _ _),
      (h c).2.1.trans (GlaRefIdeal.RefValue.state_eq _ _ _ _), (h c).2.2⟩)
    (Cert.GlaRefIdeal.Value.run (F := Ideal) m' ρ')

end Cert.Proof.GlaClaims

end
-- ==== Proof.MlpValue.lean ====
/-
  The output projection and the feed-forward part: a row of the stream plus the attention's row times the output
  weights; normalized, projected up, rectified and squared, projected down and added; normalized again. The kernel
  walks the 4096 hidden columns in four blocks and adds up in its output block. The array it leaves is the reference's.
-/
module

public import proofs.«01_k».proof.Defs
public import proofs.«01_k».proof.Proof.Rows
public import proofs.«01_k».proof.Proof.Gen.Mlp.Frame
public import proofs.«01_k».proof.Proof.Gen.MlpIdeal.Value
public import proofs.«01_k».proof.Proof.Gen.MlpRefIdeal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.MlpIdeal.RefValue

open Cert.MlpIdeal Cert.MlpIdeal.Gen
open Idealize.ShloMosaic.Pipeline (Dat)

variable (m : (ℓ : Loc nD τ sig) → Buf (Elt Ideal) ℓ) (ρ : Dev nD → PrngReg)

/-- What the four points of a row block leave, point by point. The first: the output block is its own addition to zero, -/
theorem first_out (c : Dev nD) (t : Fin cfg0.N) (h0 : t.val % 4 = 0) :
    (outsAt0 m c t.val t.isLt).1 = k0_pay5 (k0_pay3 (iblk m c 0 t) (iblk m c 1 t) (iblk m c 2 t) (iblk m c 3 t)) (iblk m c 4 t) (k0_pay4 (F := Ideal)) (iblk m c 5 t) := by
  rw [outsAt0_A m c t h0 (by omega)]
  dsimp only
  unfold out0_A_7
  frame_out

/-- the first scratch array the stream's block, -/
theorem first_x1 (c : Dev nD) (t : Fin cfg0.N) (h0 : t.val % 4 = 0) :
    (outsAt0 m c t.val t.isLt).2.1 = k0_pay2 (iblk m c 0 t) (iblk m c 1 t) (iblk m c 2 t) := by
  rw [outsAt0_A m c t h0 (by omega)]
  dsimp only
  unfold sout0_A_0
  frame_out

/-- and the second the stream's block normalized. -/
theorem first_xn (c : Dev nD) (t : Fin cfg0.N) (h0 : t.val % 4 = 0) :
    (outsAt0 m c t.val t.isLt).2.2 = k0_pay3 (iblk m c 0 t) (iblk m c 1 t) (iblk m c 2 t) (iblk m c 3 t) := by
  rw [outsAt0_A m c t h0 (by omega)]
  dsimp only
  unfold sout0_A_1
  frame_out

/-- The contents after the point before `t`, spelled by that point's own number. -/
theorem prev_point (c : Dev nD) (t s : Fin cfg0.N) (e : t.val = s.val + 1) (h : t.val - 1 < cfg0.N) :
    outsAt0 m c (t.val - 1) h = outsAt0 m c s.val s.isLt := by
  have p : t.val - 1 = s.val := by omega
  generalize t.val - 1 = n at h p
  subst p
  rfl

/-- A middle point adds to the output block what its columns give, -/
theorem mid_out (c : Dev nD) (t s : Fin cfg0.N) (e : t.val = s.val + 1) (h0 : ¬ t.val % 4 = 0) (h1 : ¬ t.val % 4 = 3) :
    (outsAt0 m c t.val t.isLt).1
      = k0_pay5 (outsAt0 m c s.val s.isLt).2.2 (iblk m c 4 t) (outsAt0 m c s.val s.isLt).1 (iblk m c 5 t) := by
  rw [outsAt0_B m c t h0 h1]
  simp only [prev_point m c t s e]
  frame_out
  simp only [read_unread_whole]

/-- and keeps the stream's block -/
theorem mid_x1 (c : Dev nD) (t s : Fin cfg0.N) (e : t.val = s.val + 1) (h0 : ¬ t.val % 4 = 0) (h1 : ¬ t.val % 4 = 3) :
    (outsAt0 m c t.val t.isLt).2.1 = (outsAt0 m c s.val s.isLt).2.1 := by
  rw [outsAt0_B m c t h0 h1]
  simp only [prev_point m c t s e]
  unfold sout0_B_0
  rfl

/-- and the normalized block. -/
theorem mid_xn (c : Dev nD) (t s : Fin cfg0.N) (e : t.val = s.val + 1) (h0 : ¬ t.val % 4 = 0) (h1 : ¬ t.val % 4 = 3) :
    (outsAt0 m c t.val t.isLt).2.2 = (outsAt0 m c s.val s.isLt).2.2 := by
  rw [outsAt0_B m c t h0 h1]
  simp only [prev_point m c t s e]
  unfold sout0_B_1
  rfl

/-- The last point adds its own, then adds the stream and normalizes. -/
theorem last_out (c : Dev nD) (t s : Fin cfg0.N) (e : t.val = s.val + 1) (h1 : t.val % 4 = 3) :
    (outsAt0 m c t.val t.isLt).1
      = k0_pay6 (outsAt0 m c s.val s.isLt).2.1
          (k0_pay5 (outsAt0 m c s.val s.isLt).2.2 (iblk m c 4 t) (outsAt0 m c s.val s.isLt).1 (iblk m c 5 t))
          (iblk m c 6 t) := by
  rw [outsAt0_C m c t (by omega) h1]
  simp only [prev_point m c t s e]
  frame_out
  simp only [read_unread_whole]

/-- The point of row block `i` and column block `f`. -/
def pt (i : Fin 16) (f : Fin 4) : Fin cfg0.N := ⟨4 * i.val + f.val, lt_of_lt_of_eq (by omega : 4 * i.val + f.val < 64) N_0.symm⟩

/-- After the last of its four points a row block holds the four additions, added to the stream and normalized. -/
theorem done (c : Dev nD) (i : Fin 16) :
    (outsAt0 m c (pt i 3).val (pt i 3).isLt).1
      = k0_pay6 (k0_pay2 (iblk m c 0 (pt i 0)) (iblk m c 1 (pt i 0)) (iblk m c 2 (pt i 0)))
          (List.foldl (fun acc f => k0_pay5 (k0_pay3 (iblk m c 0 (pt i 0)) (iblk m c 1 (pt i 0)) (iblk m c 2 (pt i 0)) (iblk m c 3 (pt i 0)))
            (iblk m c 4 (pt i f)) acc (iblk m c 5 (pt i f))) (k0_pay4 (F := Ideal)) [0, 1, 2, 3])
          (iblk m c 6 (pt i 3)) := by
  have v : ∀ f, (pt i f).val % 4 = f.val := fun f => by have : (pt i f).val = 4 * i.val + f.val := rfl; omega
  rw [last_out m c (pt i 3) (pt i 2) rfl (v 3),
    mid_x1 m c (pt i 2) (pt i 1) rfl (by rw [v]; decide) (by rw [v]; decide), mid_x1 m c (pt i 1) (pt i 0) rfl (by rw [v]; decide) (by rw [v]; decide),
    first_x1 m c (pt i 0) (v 0),
    mid_xn m c (pt i 2) (pt i 1) rfl (by rw [v]; decide) (by rw [v]; decide), mid_xn m c (pt i 1) (pt i 0) rfl (by rw [v]; decide) (by rw [v]; decide),
    first_xn m c (pt i 0) (v 0),
    mid_out m c (pt i 2) (pt i 1) rfl (by rw [v]; decide) (by rw [v]; decide), mid_out m c (pt i 1) (pt i 0) rfl (by rw [v]; decide) (by rw [v]; decide),
    mid_xn m c (pt i 1) (pt i 0) rfl (by rw [v]; decide) (by rw [v]; decide),
    first_xn m c (pt i 0) (v 0), first_out m c (pt i 0) (v 0)]
  rfl

/-- Where each window's block lies at point `t`: row block `t / 4`, hidden column block `t % 4`, the other operands whole. -/
theorem idx : ∀ t : Fin cfg0.N, win0_0.index t = ![t.val / 4, 0] ∧ win0_1.index t = ![t.val / 4, 0]
    ∧ win0_2.index t = ![0, 0] ∧ win0_3.index t = ![0, 0] ∧ win0_4.index t = ![1, 0, t.val % 4]
    ∧ win0_5.index t = ![1, t.val % 4, 0] ∧ win0_6.index t = ![0, 0] ∧ win0_7.index t = ![t.val / 4, 0] :=
  (by decide +kernel : ∀ t : Fin grid0.N, _)

/-- Device `c`'s seven arguments. -/
abbrev argX (c : Dev nD) : FVec Ideal S16384x1024 .f32 := m ((c : Thread nD τ).loc main_arg0)
abbrev argO (c : Dev nD) : FVec Ideal S16384x1024 .bf16 := m ((c : Thread nD τ).loc main_arg1)
abbrev argWo (c : Dev nD) : FVec Ideal S1024x1024 .bf16 := m ((c : Thread nD τ).loc main_arg2)
abbrev argG (c : Dev nD) : FVec Ideal S1024 .f32 := m ((c : Thread nD τ).loc main_arg3)
abbrev argUp (c : Dev nD) : FVec Ideal S2x1024x4096 .bf16 := m ((c : Thread nD τ).loc main_arg4)
abbrev argDown (c : Dev nD) : FVec Ideal S2x4096x1024 .bf16 := m ((c : Thread nD τ).loc main_arg5)
abbrev argF (c : Dev nD) : FVec Ideal S1024 .f32 := m ((c : Thread nD τ).loc main_arg6)

/-- There are 64 points. -/
theorem lt64 (t : Fin cfg0.N) : t.val < 64 := N_0 ▸ t.isLt

/-- The input blocks, entry by entry: the tokens' rows, -/
theorem ib0 (c : Dev nD) (t : Fin cfg0.N) (a k : Fin 1024) :
    iblk m c 0 t (ix2 a k) = argX m c (ix2 ⟨t.val / 4 * 1024 + a.val, by have := lt64 t; omega⟩ k) := by
  unfold iblk argX
  entry_read
  blk_simp [idx t]
  pointwise
  blk_ext [idx t]

/-- the attention's rows, -/
theorem ib1 (c : Dev nD) (t : Fin cfg0.N) (a k : Fin 1024) :
    iblk m c 1 t (ix2 a k) = argO m c (ix2 ⟨t.val / 4 * 1024 + a.val, by have := lt64 t; omega⟩ k) := by
  unfold iblk argO
  entry_read
  blk_simp [idx t]
  pointwise
  blk_ext [idx t]

/-- the output weights, -/
theorem ib2 (c : Dev nD) (t : Fin cfg0.N) (a k : Fin 1024) : iblk m c 2 t (ix2 a k) = argWo m c (ix2 a k) := by
  unfold iblk argWo
  entry_read
  blk_simp [idx t]
  pointwise
  blk_ext [idx t]

/-- the gains, -/
theorem ib3 (c : Dev nD) (t : Fin cfg0.N) (k : Fin 1024) : iblk m c 3 t (ix2 0 k) = argG m c (ix1 k) := by
  unfold iblk argG
  entry_read
  blk_simp [idx t]
  pointwise
  blk_ext [idx t]

/-- the second layer's up weights at the point's hidden columns, -/
theorem ib4 (c : Dev nD) (t : Fin cfg0.N) (a k : Fin 1024) :
    iblk m c 4 t (ix3 0 a k) = argUp m c (ix3 1 a ⟨t.val % 4 * 1024 + k.val, by omega⟩) := by
  unfold iblk argUp
  entry_read
  blk_simp [idx t]
  pointwise
  blk_ext [idx t]

/-- its down weights at the point's hidden rows -/
theorem ib5 (c : Dev nD) (t : Fin cfg0.N) (a k : Fin 1024) :
    iblk m c 5 t (ix3 0 a k) = argDown m c (ix3 1 ⟨t.val % 4 * 1024 + a.val, by omega⟩ k) := by
  unfold iblk argDown
  entry_read
  blk_simp [idx t]
  pointwise
  blk_ext [idx t]

/-- and the last gains. -/
theorem ib6 (c : Dev nD) (t : Fin cfg0.N) (k : Fin 1024) : iblk m c 6 t (ix2 0 k) = argF m c (ix1 k) := by
  unfold iblk argF
  entry_read
  blk_simp [idx t]
  pointwise
  blk_ext [idx t]

/-- What the body computes from its blocks, entry by entry: the stream, -/
theorem stream_apply (v21 : Vec Ideal S1024x1024 .f32) (v22 v23 : Vec Ideal S1024x1024 .bf16) (a b : Fin 1024) :
    k0_pay2 v21 v22 v23 (ix2 a b) = v21 (ix2 a b) + ∑ k : Fin 1024, v22 (ix2 a k) * v23 (ix2 k b) := by
  unfold_payloads
  pointwise [dot_S1024x1024_S1024x1024_S1024x1024_1_0_0_1_n_n]

/-- the stream normalized, -/
theorem normed_apply (v21 : Vec Ideal S1024x1024 .f32) (v22 v23 : Vec Ideal S1024x1024 .bf16) (v29 : Vec Ideal S1x1024 .f32) (a b : Fin 1024) :
    k0_pay3 v21 v22 v23 v29 (ix2 a b)
      = Rows.norm (fun j => v21 (ix2 a j) + ∑ k : Fin 1024, v22 (ix2 a k) * v23 (ix2 k j)) (fun j => v29 (ix2 0 j)) b := by
  unfold_payloads
  pointwise [dot_S1024x1024_S1024x1024_S1024x1024_1_0_0_1_n_n, Rows.norm, Rows.scale]

/-- zero, -/
theorem zero_apply (a b : Fin 1024) : k0_pay4 (F := Ideal) (ix2 a b) = 0 := by
  unfold_payloads
  pointwise

/-- one block of hidden columns' addition to the output block -/
theorem add_apply (v3 : Vec Ideal S1024x1024 .bf16) (v4 : Vec Ideal S1x1024x1024 .bf16) (v9 : Vec Ideal S1024x1024 .f32) (v13 : Vec Ideal S1x1024x1024 .bf16) (a b : Fin 1024) :
    k0_pay5 v3 v4 v9 v13 (ix2 a b) = v9 (ix2 a b) + ∑ k : Fin 1024,
      (max (∑ j : Fin 1024, v3 (ix2 a j) * v4 (ix3 0 j k)) 0 * max (∑ j : Fin 1024, v3 (ix2 a j) * v4 (ix3 0 j k)) 0) * v13 (ix3 0 k b) := by
  unfold_payloads
  pointwise [dot_S1024x1024_S1024x1024_S1024x1024_1_0_0_1_n_n]

/-- and the last normalization. -/
theorem last_apply (v21 v22 : Vec Ideal S1024x1024 .f32) (v25 : Vec Ideal S1x1024 .f32) (a b : Fin 1024) :
    k0_pay6 v21 v22 v25 (ix2 a b) = Rows.norm (fun j => v21 (ix2 a j) + v22 (ix2 a j)) (fun j => v25 (ix2 0 j)) b := by
  unfold_payloads
  pointwise [Rows.norm, Rows.scale]

/-- Row `r` of the stream after the attention's output projection, at column `l`. -/
def stream (x : FVec Ideal S16384x1024 .f32) (o : FVec Ideal S16384x1024 .bf16) (wo : FVec Ideal S1024x1024 .bf16) (r : Fin 16384) (l : Fin 1024) : EReal :=
  x (ix2 r l) + ∑ k : Fin 1024, o (ix2 r k) * wo (ix2 k l)

/-- The squared rectified projection of the normalized row `r`, at hidden column `h`. -/
def hidden (x : FVec Ideal S16384x1024 .f32) (o : FVec Ideal S16384x1024 .bf16) (wo : FVec Ideal S1024x1024 .bf16) (g : FVec Ideal S1024 .f32)
    (up : FVec Ideal S2x1024x4096 .bf16) (r : Fin 16384) (h : Fin 4096) : EReal :=
  max (Rows.proj (stream x o wo r) (fun j => g (ix1 j)) (fun j => up (ix3 1 j h))) 0
    * max (Rows.proj (stream x o wo r) (fun j => g (ix1 j)) (fun j => up (ix3 1 j h))) 0

/-- The feed-forward part's row `r`, added to the stream, normalized and scaled by the last gains. -/
def result (x : FVec Ideal S16384x1024 .f32) (o : FVec Ideal S16384x1024 .bf16) (wo : FVec Ideal S1024x1024 .bf16) (g : FVec Ideal S1024 .f32)
    (up : FVec Ideal S2x1024x4096 .bf16) (down : FVec Ideal S2x4096x1024 .bf16) (gf : FVec Ideal S1024 .f32) : S16384x1024.Idx → EReal := fun i =>
  Rows.norm (fun l => stream x o wo (i 0) l + ∑ h : Fin 4096, hidden x o wo g up (i 0) h * down (ix3 1 h l)) (fun j => gf (ix1 j)) (i 1)

/-- One point's addition to the output block, read from the arguments. -/
theorem add_block (c : Dev nD) (i : Fin 16) (f : Fin 4) (acc : Vec Ideal S1024x1024 .f32) (a b : Fin 1024) :
    k0_pay5 (k0_pay3 (iblk m c 0 (pt i 0)) (iblk m c 1 (pt i 0)) (iblk m c 2 (pt i 0)) (iblk m c 3 (pt i 0))) (iblk m c 4 (pt i f)) acc (iblk m c 5 (pt i f)) (ix2 a b)
      = acc (ix2 a b) + ∑ k : Fin 1024, hidden (argX m c) (argO m c) (argWo m c) (argG m c) (argUp m c) ⟨i.val * 1024 + a.val, by omega⟩ ⟨f.val * 1024 + k.val, by omega⟩
          * argDown m c (ix3 1 ⟨f.val * 1024 + k.val, by omega⟩ b) := by
  have v : (pt i f).val % 4 = f.val := by have : (pt i f).val = 4 * i.val + f.val := rfl; omega
  have u : (pt i 0).val / 4 = i.val := by have : (pt i 0).val = 4 * i.val + 0 := rfl; omega
  rw [add_apply]
  simp only [normed_apply, ib0, ib1, ib2, ib3, ib4, ib5, u, v]
  rfl

/-- The output array ends holding the result. -/
theorem final7 (c : Dev nD) : (dats m 0 c).arrAt 7 cfg0.N
    = result (argX m c) (argO m c) (argWo m c) (argG m c) (argUp m c) (argDown m c) (argF m c) := by
  refine (dats m 0 c).arrAt_eq_of_covers 7 _ (by decide +kernel) fun t hf y => ?_
  blk_simp
  rw [after0_7]
  obtain ⟨i, rfl⟩ : ∃ i : Fin 16, t = pt i 3 :=
    ⟨⟨t.val / 4, by have := lt64 t; omega⟩, Fin.ext (by have := (flush0_7 t).mp hf; show t.val = 4 * (t.val / 4) + 3; omega)⟩
  rw [done]
  obtain ⟨a, b, rfl⟩ : ∃ (a b : Fin 1024), y = ix2 a b := ⟨y 0, y 1, eq_ix2 y⟩
  have u : ∀ f, (pt i f).val / 4 = i.val := fun f => by have : (pt i f).val = 4 * i.val + f.val := rfl; omega
  rw [show ((View.whole main_v2).slice (win0_7.rect (pt i 3))).emb (ix2 a b) = ix2 ⟨i.val * 1024 + a.val, by omega⟩ b by
    blk_ext [idx (pt i 3), u]]
  refine (last_apply _ _ _ a b).trans ?_
  simp only [List.foldl_cons, List.foldl_nil, add_block, zero_apply, stream_apply, ib0, ib1, ib2, ib6, u]
  unfold result
  refine congrArg (fun z => Rows.norm z _ b) (funext fun l => ?_)
  refine congrArg₂ (· + ·) rfl ?_
  refine Eq.trans ?_ (Fin.sum_mul_add_fin 4 1024 (fun h : Fin 4096 => hidden (argX m c) (argO m c) (argWo m c) (argG m c) (argUp m c) ⟨i.val * 1024 + a.val, by omega⟩ h
          * argDown m c (ix3 1 h l)))
  rw [Fin.sum_univ_four, zero_add]

end Cert.MlpIdeal.RefValue

namespace Cert.MlpRefIdeal.RefValue

open Cert.MlpRefIdeal Cert.MlpRefIdeal.Gen

/-- The reference's normalization of an array's rows with gains `g`, -/
def norm (v : FVec Ideal S16384x1024 .f32) (g : FVec Ideal S1024 .f32) : FVec Ideal S16384x1024 .f32 :=
  mulf (mulf v (broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- row by row. -/
theorem norm_apply (v : FVec Ideal S16384x1024 .f32) (g : FVec Ideal S1024 .f32) (r : Fin 16384) (l : Fin 1024) :
    norm v g (ix2 r l) = Rows.norm (fun j => v (ix2 r j)) (fun j => g (ix1 j)) l := by
  unfold norm
  pointwise [Rows.norm, Rows.scale]

/-- The reference's stream after the attention's output projection. -/
def stream (x : FVec Ideal S16384x1024 .f32) (o : FVec Ideal S16384x1024 .bf16) (wo : FVec Ideal S1024x1024 .bf16) : FVec Ideal S16384x1024 .f32 :=
  addf x (Host.dotGeneral dot_S16384x1024_S1024x1024_S16384x1024_1_0_0_1_n_n none (extf .f32 o bitsLt_bf16_f32) (extf .f32 wo bitsLt_bf16_f32))

/-- Entry by entry. -/
theorem stream_apply (x : FVec Ideal S16384x1024 .f32) (o : FVec Ideal S16384x1024 .bf16) (wo : FVec Ideal S1024x1024 .bf16) (r : Fin 16384) (l : Fin 1024) :
    stream x o wo (ix2 r l) = MlpIdeal.RefValue.stream x o wo r l := by
  unfold stream
  pointwise [dot_S16384x1024_S1024x1024_S16384x1024_1_0_0_1_n_n, MlpIdeal.RefValue.stream]

/-- The reference's rectified projection. -/
def rect (x : FVec Ideal S16384x1024 .f32) (o : FVec Ideal S16384x1024 .bf16) (wo : FVec Ideal S1024x1024 .bf16) (g : FVec Ideal S1024 .f32) (up : FVec Ideal S2x1024x4096 .bf16) : FVec Ideal S16384x4096 .f32 :=
  maximumf (Host.dotGeneral dot_S16384x1024_S1024x4096_S16384x4096_1_0_0_1_n_n none (norm (stream x o wo) g) (extf .f32 (shapeCast _ (extractStridedSlice S1x1024x4096 ![1, 0, 0] up slices_S2x1024x4096_S1x1024x4096_1_0_0) shapeCasts_S1x1024x4096_S1024x4096) bitsLt_bf16_f32)) (broadcastInDim S16384x4096 ![] bcast_S_S16384x4096 (constant S_ .f32 0x00000000#32))

/-- Entry by entry. -/
theorem rect_apply (x : FVec Ideal S16384x1024 .f32) (o : FVec Ideal S16384x1024 .bf16) (wo : FVec Ideal S1024x1024 .bf16) (g : FVec Ideal S1024 .f32) (up : FVec Ideal S2x1024x4096 .bf16) (r : Fin 16384) (h : Fin 4096) :
    rect x o wo g up (ix2 r h) = max (Rows.proj (MlpIdeal.RefValue.stream x o wo r) (fun j => g (ix1 j)) (fun j => up (ix3 1 j h))) 0 := by
  unfold rect
  pointwise [dot_S16384x1024_S1024x4096_S16384x4096_1_0_0_1_n_n, norm_apply, stream_apply, Rows.proj]

/-- The reference's stream after the feed-forward part. -/
def out (x : FVec Ideal S16384x1024 .f32) (o : FVec Ideal S16384x1024 .bf16) (wo : FVec Ideal S1024x1024 .bf16) (g : FVec Ideal S1024 .f32) (up : FVec Ideal S2x1024x4096 .bf16) (down : FVec Ideal S2x4096x1024 .bf16) : FVec Ideal S16384x1024 .f32 :=
  addf (stream x o wo) (Host.dotGeneral dot_S16384x4096_S4096x1024_S16384x1024_1_0_0_1_n_n none (mulf (rect x o wo g up) (rect x o wo g up)) (extf .f32 (shapeCast _ (extractStridedSlice S1x4096x1024 ![1, 0, 0] down slices_S2x4096x1024_S1x4096x1024_1_0_0) shapeCasts_S1x4096x1024_S4096x1024) bitsLt_bf16_f32))

/-- Entry by entry. -/
theorem out_apply (x : FVec Ideal S16384x1024 .f32) (o : FVec Ideal S16384x1024 .bf16) (wo : FVec Ideal S1024x1024 .bf16) (g : FVec Ideal S1024 .f32) (up : FVec Ideal S2x1024x4096 .bf16) (down : FVec Ideal S2x4096x1024 .bf16) (r : Fin 16384) (l : Fin 1024) :
    out x o wo g up down (ix2 r l) = MlpIdeal.RefValue.stream x o wo r l + ∑ h : Fin 4096, MlpIdeal.RefValue.hidden x o wo g up r h * down (ix3 1 h l) := by
  unfold out
  pointwise [dot_S16384x4096_S4096x1024_S16384x1024_1_0_0_1_n_n, stream_apply, rect_apply, MlpIdeal.RefValue.hidden]

/-- The reference's result is the kernel's. -/
theorem result_eq (x : FVec Ideal S16384x1024 .f32) (o : FVec Ideal S16384x1024 .bf16) (wo : FVec Ideal S1024x1024 .bf16) (g : FVec Ideal S1024 .f32) (up : FVec Ideal S2x1024x4096 .bf16) (down : FVec Ideal S2x4096x1024 .bf16) (gf : FVec Ideal S1024 .f32) :
    norm (out x o wo g up down) gf = MlpIdeal.RefValue.result x o wo g up down gf := by
  funext i
  obtain ⟨r, l, rfl⟩ : ∃ (r : Fin 16384) (l : Fin 1024), i = ix2 r l := ⟨i 0, i 1, eq_ix2 i⟩
  rw [norm_apply]
  simp only [out_apply]
  rfl

end Cert.MlpRefIdeal.RefValue

namespace Cert.Proof.MlpClaims

/-- The frames: the kernel's two programs leave their arguments as launched, by their generated runs, -/
theorem frame_p : Cert.quiescent_Mlp := fun m ρ _ => Cert.Mlp.Gen.frame m ρ
theorem frame_pi : Cert.quiescent_MlpIdeal := fun m ρ _ => Cert.MlpIdeal.Gen.frame m ρ
/-- and so does the reference. -/
theorem frame_ri : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

/-- No operation was rewritten. -/
theorem preserves : Cert.preserves_Mlp_MlpIdeal := trivial

/-- On the extended reals the kernel's result is the reference's. -/
theorem algebraic : Cert.algebraic_MlpIdeal_MlpRefIdeal := by
  intro m ρ m' ρ' _ hagree
  refine ⟨fun c => MlpIdeal.RefValue.result (MlpIdeal.RefValue.argX m c) (MlpIdeal.RefValue.argO m c) (MlpIdeal.RefValue.argWo m c) (MlpIdeal.RefValue.argG m c)
    (MlpIdeal.RefValue.argUp m c) (MlpIdeal.RefValue.argDown m c) (MlpIdeal.RefValue.argF m c), ?_, ?_⟩
  · exact (θ_run Cert.MlpIdeal.defs _ _).mono (fun _ h c => ⟨(h c).1.trans (MlpIdeal.RefValue.final7 m c), (h c).2⟩)
      (Cert.MlpIdeal.Value.run_blocks (F := Ideal) m ρ)
  have e : ∀ c, MlpIdeal.RefValue.argX m c = m' ((c.tc : Thread Cert.MlpRefIdeal.nD Cert.MlpRefIdeal.τ).loc Cert.MlpRefIdeal.main_arg0)
      ∧ MlpIdeal.RefValue.argO m c = m' ((c.tc : Thread Cert.MlpRefIdeal.nD Cert.MlpRefIdeal.τ).loc Cert.MlpRefIdeal.main_arg1)
      ∧ MlpIdeal.RefValue.argWo m c = m' ((c.tc : Thread Cert.MlpRefIdeal.nD Cert.MlpRefIdeal.τ).loc Cert.MlpRefIdeal.main_arg2)
      ∧ MlpIdeal.RefValue.argG m c = m' ((c.tc : Thread Cert.MlpRefIdeal.nD Cert.MlpRefIdeal.τ).loc Cert.MlpRefIdeal.main_arg3)
      ∧ MlpIdeal.RefValue.argUp m c = m' ((c.tc : Thread Cert.MlpRefIdeal.nD Cert.MlpRefIdeal.τ).loc Cert.MlpRefIdeal.main_arg4)
      ∧ MlpIdeal.RefValue.argDown m c = m' ((c.tc : Thread Cert.MlpRefIdeal.nD Cert.MlpRefIdeal.τ).loc Cert.MlpRefIdeal.main_arg5)
      ∧ MlpIdeal.RefValue.argF m c = m' ((c.tc : Thread Cert.MlpRefIdeal.nD Cert.MlpRefIdeal.τ).loc Cert.MlpRefIdeal.main_arg6) := fun c =>
    ⟨(hagree c).1.symm, (hagree c).2.1.symm, (hagree c).2.2.1.symm, (hagree c).2.2.2.1.symm, (hagree c).2.2.2.2.1.symm, (hagree c).2.2.2.2.2.1.symm, (hagree c).2.2.2.2.2.2.symm⟩
  simp only [e]
  exact (θ_run Cert.MlpRefIdeal.defs _ _).mono (fun _ h c => ⟨(h c).1.trans (MlpRefIdeal.RefValue.result_eq _ _ _ _ _ _ _), (h c).2⟩)
    (Cert.MlpRefIdeal.Value.run (F := Ideal) m' ρ')

end Cert.Proof.MlpClaims

end
-- ==== Proof.QkvValue.lean ====
/-
  The query, key and value projections of the prompt: each of the kernel's three result arrays, row by row the
  normalized row times one column of the fused weight matrix, is the reference's.
-/
module

public import proofs.«01_k».proof.Defs
public import proofs.«01_k».proof.Proof.Rows
public import proofs.«01_k».proof.Proof.Gen.Qkv.Frame
public import proofs.«01_k».proof.Proof.Gen.QkvIdeal.Value
public import proofs.«01_k».proof.Proof.Gen.QkvRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.QkvIdeal.RefValue

open Cert.QkvIdeal Cert.QkvIdeal.Gen
open Idealize.ShloMosaic.Pipeline (Dat)

variable (m : (ℓ : Loc nD τ sig) → Buf (Elt Ideal) ℓ) (ρ : Dev nD → PrngReg)

/-- Row `r` (sequence `r / 8192`, position `r % 8192`) of the tokens, normalized, times column `off + l` of the weights. -/
def part (x : FVec Ideal S2x8192x1024 .f32) (g : FVec Ideal S2x1024 .f32) (w : FVec Ideal S1x1024x3072 .bf16) (off : Nat) (hoff : off ≤ 2048) :
    S16384x1024.Idx → EReal := fun i =>
  Rows.proj (fun j => x (ix3 ⟨(i 0 : Nat) / 8192, by have : (i 0 : Nat) < 16384 := (i 0).isLt; omega⟩ ⟨(i 0 : Nat) % 8192, Nat.mod_lt _ (by decide)⟩ j))
    (fun j => g (ix2 0 j))
    (fun j => w (ix3 0 j ⟨off + (i 1 : Nat), by have : (i 1 : Nat) < 1024 := (i 1).isLt; omega⟩))

/-- The three parts at device `c`'s arguments. -/
abbrev G (c : Dev nD) (off : Nat) (hoff : off ≤ 2048) : S16384x1024.Idx → EReal :=
  part (m ((c : Thread nD τ).loc main_arg0)) (m ((c : Thread nD τ).loc main_arg1)) (m ((c : Thread nD τ).loc main_arg2)) off hoff

/-- Where each window's block lies at point `t`: the tokens and the results at block row `t`, the gains and weights whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0])

/-- The tokens' block at point `t`: rows `512 t` and on. -/
theorem ib0 (c : Dev nD) (t : Fin cfg0.N) (a : Fin 512) (k : Fin 1024) :
    iblk m c 0 t (ix2 a k) = m ((c : Thread nD τ).loc main_arg0)
      (ix3 ⟨(t.val * 512 + a.val) / 8192, by have : t.val < 32 := N_0 ▸ t.isLt; omega⟩ ⟨(t.val * 512 + a.val) % 8192, Nat.mod_lt _ (by decide)⟩ k) := by
  unfold iblk
  entry_read
  blk_simp [idx t]
  pointwise
  blk_ext [idx t]

/-- The gains' block is the first row of gains. -/
theorem ib1 (c : Dev nD) (t : Fin cfg0.N) (k : Fin 1024) :
    iblk m c 1 t (ix2 0 k) = m ((c : Thread nD τ).loc main_arg1) (ix2 0 k) := by
  unfold iblk
  entry_read
  blk_simp [idx t]
  pointwise
  blk_ext [idx t]

/-- The weights' block is the whole weight matrix. -/
theorem ib2 (c : Dev nD) (t : Fin cfg0.N) (k : Fin 1024) (l : Fin 3072) :
    iblk m c 2 t (ix2 k l) = m ((c : Thread nD τ).loc main_arg2) (ix3 0 k l) := by
  unfold iblk
  entry_read
  blk_simp [idx t]
  pointwise
  blk_ext [idx t]

/-- What the body computes for one result block, at row `r` and column `l`. -/
theorem pay_apply (v0 : Vec Ideal S512x1024 .f32) (v2 : Vec Ideal S1x1024 .f32) (v4 : Vec Ideal S1024x1024 .bf16) (r : Fin 512) (l : Fin 1024) :
    k0_pay2 v0 v2 v4 (ix2 r l) = Rows.proj (fun j => v0 (ix2 r j)) (fun j => v2 (ix2 0 j)) (fun j => v4 (ix2 j l)) := by
  unfold_payloads
  pointwise [dot_S512x1024_S1024x1024_S512x1024_1_0_0_1_n_n, Rows.proj, Rows.norm, Rows.scale]

/-- The body's three results are one function of the row block, the gains and the weight block. -/
theorem pay3_eq : @k0_pay3 Ideal _ = k0_pay2 := rfl
theorem pay4_eq : @k0_pay4 Ideal _ = k0_pay2 := rfl

/-- The query array ends holding its part, -/
theorem final3 (c : Dev nD) : (dats m 0 c).arrAt 3 cfg0.N = G m c 0 (by decide) := by
  refine (dats m 0 c).arrAt_eq_of_covers 3 _ (by decide +kernel) fun t hf y => ?_
  blk_simp
  rw [after0_3]
  frame_out
  obtain ⟨a, b, rfl⟩ : ∃ (a : Fin 512) (b : Fin 1024), y = ix2 a b := ⟨y 0, y 1, eq_ix2 y⟩
  refine (pay_apply _ _ _ a b).trans ?_
  exact Rows.proj_congr (fun k => (ib0 m c t _ k).trans (by blk_ext [idx t])) (fun k => ib1 m c t k)
    (fun k => by pointwise; exact (ib2 m c t _ _).trans (by blk_ext [idx t]))

/-- the key array, -/
theorem final4 (c : Dev nD) : (dats m 0 c).arrAt 4 cfg0.N = G m c 1024 (by decide) := by
  refine (dats m 0 c).arrAt_eq_of_covers 4 _ (by decide +kernel) fun t hf y => ?_
  blk_simp
  rw [after0_4]
  frame_out
  obtain ⟨a, b, rfl⟩ : ∃ (a : Fin 512) (b : Fin 1024), y = ix2 a b := ⟨y 0, y 1, eq_ix2 y⟩
  rw [pay3_eq]
  refine (pay_apply _ _ _ a b).trans ?_
  exact Rows.proj_congr (fun k => (ib0 m c t _ k).trans (by blk_ext [idx t])) (fun k => ib1 m c t k)
    (fun k => by pointwise; exact (ib2 m c t _ _).trans (by blk_ext [idx t]))

/-- and the value array. -/
theorem final5 (c : Dev nD) : (dats m 0 c).arrAt 5 cfg0.N = G m c 2048 (by decide) := by
  refine (dats m 0 c).arrAt_eq_of_covers 5 _ (by decide +kernel) fun t hf y => ?_
  blk_simp
  rw [after0_5]
  frame_out
  obtain ⟨a, b, rfl⟩ : ∃ (a : Fin 512) (b : Fin 1024), y = ix2 a b := ⟨y 0, y 1, eq_ix2 y⟩
  rw [pay4_eq]
  refine (pay_apply _ _ _ a b).trans ?_
  exact Rows.proj_congr (fun k => (ib0 m c t _ k).trans (by blk_ext [idx t])) (fun k => ib1 m c t k)
    (fun k => by pointwise; exact (ib2 m c t _ _).trans (by blk_ext [idx t]))

end Cert.QkvIdeal.RefValue

namespace Cert.QkvRefIdeal.RefValue

open Cert.QkvRefIdeal Cert.QkvRefIdeal.Gen

/-- The reference's fused product, before it is cut into queries, keys and values. -/
def fused (x : FVec Ideal S2x8192x1024 .f32) (g : FVec Ideal S2x1024 .f32) (w : FVec Ideal S1x1024x3072 .bf16) : FVec Ideal S2x8192x3072 .f32 :=
  Host.dotGeneral dot_S2x8192x1024_S1024x3072_S2x8192x3072_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1024 ![0, 0] g slices_S2x1024_S1x1024_0_0) shapeCasts_S1x1024_S1024)))) (extf .f32 (shapeCast _ w shapeCasts_S1x1024x3072_S1024x3072) bitsLt_bf16_f32)

/-- At sequence `b`, position `s` and column `e` it is that row, normalized, times that column. -/
theorem fused_apply (x : FVec Ideal S2x8192x1024 .f32) (g : FVec Ideal S2x1024 .f32) (w : FVec Ideal S1x1024x3072 .bf16) (b : Fin 2) (s : Fin 8192) (e : Fin 3072) :
    fused x g w (ix3 b s e) = Rows.proj (fun j => x (ix3 b s j)) (fun j => g (ix2 0 j)) (fun j => w (ix3 0 j e)) := by
  unfold fused
  pointwise [dot_S2x8192x1024_S1024x3072_S2x8192x3072_2_0_01_1_n_n, Rows.proj, Rows.norm, Rows.scale]

/-- The three cuts of the fused product, at row `r` and column `l`. -/
theorem cut0 (x : FVec Ideal S2x8192x1024 .f32) (g : FVec Ideal S2x1024 .f32) (w : FVec Ideal S1x1024x3072 .bf16) :
    (shapeCast S16384x1024 (shapeCast S2x8192x1024 (extractStridedSlice S2x8192x1x1024 ![0, 0, 0, 0] (shapeCast S2x8192x3x1024 (fused x g w) shapeCasts_S2x8192x3072_S2x8192x3x1024) slices_S2x8192x3x1024_S2x8192x1x1024_0_0_0_0) shapeCasts_S2x8192x1x1024_S2x8192x1024) shapeCasts_S2x8192x1024_S16384x1024)
      = QkvIdeal.RefValue.part x g w 0 (by decide) := by
  funext i
  obtain ⟨r, l, rfl⟩ : ∃ (r : Fin 16384) (l : Fin 1024), i = ix2 r l := ⟨i 0, i 1, eq_ix2 i⟩
  pointwise [fused_apply, QkvIdeal.RefValue.part]

theorem cut1 (x : FVec Ideal S2x8192x1024 .f32) (g : FVec Ideal S2x1024 .f32) (w : FVec Ideal S1x1024x3072 .bf16) :
    (shapeCast S16384x1024 (shapeCast S2x8192x1024 (extractStridedSlice S2x8192x1x1024 ![0, 0, 1, 0] (shapeCast S2x8192x3x1024 (fused x g w) shapeCasts_S2x8192x3072_S2x8192x3x1024) slices_S2x8192x3x1024_S2x8192x1x1024_0_0_1_0) shapeCasts_S2x8192x1x1024_S2x8192x1024) shapeCasts_S2x8192x1024_S16384x1024)
      = QkvIdeal.RefValue.part x g w 1024 (by decide) := by
  funext i
  obtain ⟨r, l, rfl⟩ : ∃ (r : Fin 16384) (l : Fin 1024), i = ix2 r l := ⟨i 0, i 1, eq_ix2 i⟩
  pointwise [fused_apply, QkvIdeal.RefValue.part]

theorem cut2 (x : FVec Ideal S2x8192x1024 .f32) (g : FVec Ideal S2x1024 .f32) (w : FVec Ideal S1x1024x3072 .bf16) :
    (shapeCast S16384x1024 (shapeCast S2x8192x1024 (extractStridedSlice S2x8192x1x1024 ![0, 0, 2, 0] (shapeCast S2x8192x3x1024 (fused x g w) shapeCasts_S2x8192x3072_S2x8192x3x1024) slices_S2x8192x3x1024_S2x8192x1x1024_0_0_2_0) shapeCasts_S2x8192x1x1024_S2x8192x1024) shapeCasts_S2x8192x1024_S16384x1024)
      = QkvIdeal.RefValue.part x g w 2048 (by decide) := by
  funext i
  obtain ⟨r, l, rfl⟩ : ∃ (r : Fin 16384) (l : Fin 1024), i = ix2 r l := ⟨i 0, i 1, eq_ix2 i⟩
  pointwise [fused_apply, QkvIdeal.RefValue.part]

end Cert.QkvRefIdeal.RefValue

namespace Cert.Proof.QkvClaims

/-- The frames: the kernel's two programs leave their arguments as launched, by their generated runs, -/
theorem frame_p : Cert.quiescent_Qkv := fun m ρ _ => Cert.Qkv.Gen.frame m ρ
theorem frame_pi : Cert.quiescent_QkvIdeal := fun m ρ _ => Cert.QkvIdeal.Gen.frame m ρ
/-- and so does the reference. -/
theorem frame_ri : Cert.quiescent_QkvRefIdeal := fun m ρ _ =>
  (θ_run Cert.QkvRefIdeal.defs _ _).mono (fun r h => ⟨fun c => (h c).2.2.2,
      Idealize.ShloMosaic.sem_eq_zero_of_no_sems (by decide) r.2⟩)
    (Cert.QkvRefIdeal.Value.run (F := Ideal) m ρ)

/-- No operation was rewritten. -/
theorem preserves : Cert.preserves_Qkv_QkvIdeal := trivial

/-- On the extended reals the kernel's queries, keys and values are the reference's. -/
theorem algebraic : Cert.algebraic_QkvIdeal_QkvRefIdeal := by
  intro m ρ m' ρ' _ hagree
  refine ⟨fun c => QkvIdeal.RefValue.G m c 0 (by decide), fun c => QkvIdeal.RefValue.G m c 1024 (by decide),
    fun c => QkvIdeal.RefValue.G m c 2048 (by decide), ?_, ?_⟩
  · exact (θ_run Cert.QkvIdeal.defs _ _).mono
      (fun _ h c => ⟨(h c).1.trans (QkvIdeal.RefValue.final3 m c), (h c).2.1.trans (QkvIdeal.RefValue.final4 m c),
        (h c).2.2.1.trans (QkvIdeal.RefValue.final5 m c), (h c).2.2.2⟩)
      (Cert.QkvIdeal.Value.run_blocks (F := Ideal) m ρ)
  refine (θ_run Cert.QkvRefIdeal.defs _ _).mono (fun _ h c => ⟨(h c).1.trans ?_, (h c).2.1.trans ?_, (h c).2.2.1.trans ?_, (h c).2.2.2⟩)
    (Cert.QkvRefIdeal.Value.run (F := Ideal) m' ρ')
  all_goals
    unfold QkvIdeal.RefValue.G
    rw [(hagree c).1, (hagree c).2.1, (hagree c).2.2]
  · exact QkvRefIdeal.RefValue.cut0 _ _ _
  · exact QkvRefIdeal.RefValue.cut1 _ _ _
  · exact QkvRefIdeal.RefValue.cut2 _ _ _

end Cert.Proof.QkvClaims

end
-- ==== Proof.HgrnInValue.lean ====
/-
  The input projections of the recurrent layer: the normalized row times four column blocks of one weight matrix,
  turned into queries, keys, values, logarithms of the forget gate and output gates. Each of the kernel's five result
  arrays is the reference's.
-/
module

public import proofs.«01_k».proof.Defs
public import proofs.«01_k».proof.Proof.Rows
public import proofs.«01_k».proof.Proof.Gen.HgrnIn.Frame
public import proofs.«01_k».proof.Proof.Gen.HgrnInIdeal.Value
public import proofs.«01_k».proof.Proof.Gen.HgrnInRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.HgrnInIdeal.RefValue

open Cert.HgrnInIdeal Cert.HgrnInIdeal.Gen
open Idealize.ShloMosaic.Pipeline (Dat)

variable (m : (ℓ : Loc nD τ sig) → Buf (Elt Ideal) ℓ) (ρ : Dev nD → PrngReg)

/-- Row `r` of the tokens, normalized with the second row of gains, times column `e` of the weights. -/
def part (x : FVec Ideal S16384x1024 .f32) (g : FVec Ideal S2x1024 .f32) (w : FVec Ideal S1x1024x4096 .bf16) (r : Fin 16384) (e : Fin 4096) : EReal :=
  Rows.proj (fun j => x (ix2 r j)) (fun j => g (ix2 1 j)) (fun j => w (ix3 0 j e))

/-- The five results of a row `r` and column `l`: the queries, -/
def query (x : FVec Ideal S16384x1024 .f32) (g : FVec Ideal S2x1024 .f32) (w : FVec Ideal S1x1024x4096 .bf16) : S16384x1024.Idx → EReal := fun i =>
  part x g w (i 0) ⟨(i 1 : Nat), by have : (i 1 : Nat) < 1024 := (i 1).isLt; omega⟩ * Ideal.logistic (part x g w (i 0) ⟨(i 1 : Nat), by have : (i 1 : Nat) < 1024 := (i 1).isLt; omega⟩)
    * Ideal.ofBits .f32 0x3DB504F3#32
/-- the forget gates, -/
def gate (x : FVec Ideal S16384x1024 .f32) (g : FVec Ideal S2x1024 .f32) (w : FVec Ideal S1x1024x4096 .bf16) (b : FVec Ideal S2x1024 .f32) : S16384x1024.Idx → EReal := fun i =>
  Rows.forget (fun j => b (ix2 j (i 1))) (part x g w (i 0) ⟨1024 + (i 1 : Nat), by have : (i 1 : Nat) < 1024 := (i 1).isLt; omega⟩)
/-- the keys, -/
def key (x : FVec Ideal S16384x1024 .f32) (g : FVec Ideal S2x1024 .f32) (w : FVec Ideal S1x1024x4096 .bf16) (b : FVec Ideal S2x1024 .f32) : S16384x1024.Idx → EReal := fun i =>
  1 - gate x g w b i
/-- the logarithms of the forget gates, -/
def logGate (x : FVec Ideal S16384x1024 .f32) (g : FVec Ideal S2x1024 .f32) (w : FVec Ideal S1x1024x4096 .bf16) (b : FVec Ideal S2x1024 .f32) : S16384x1024.Idx → EReal := fun i =>
  Ideal.log (gate x g w b i)
/-- the values, -/
def value (x : FVec Ideal S16384x1024 .f32) (g : FVec Ideal S2x1024 .f32) (w : FVec Ideal S1x1024x4096 .bf16) : S16384x1024.Idx → EReal := fun i =>
  part x g w (i 0) ⟨2048 + (i 1 : Nat), by have : (i 1 : Nat) < 1024 := (i 1).isLt; omega⟩
/-- and the output gates. -/
def outGate (x : FVec Ideal S16384x1024 .f32) (g : FVec Ideal S2x1024 .f32) (w : FVec Ideal S1x1024x4096 .bf16) : S16384x1024.Idx → EReal := fun i =>
  part x g w (i 0) ⟨3072 + (i 1 : Nat), by have : (i 1 : Nat) < 1024 := (i 1).isLt; omega⟩
    * Ideal.logistic (part x g w (i 0) ⟨3072 + (i 1 : Nat), by have : (i 1 : Nat) < 1024 := (i 1).isLt; omega⟩)

/-- Device `c`'s four arguments. -/
abbrev argX (c : Dev nD) : FVec Ideal S16384x1024 .f32 := m ((c : Thread nD τ).loc main_arg0)
abbrev argG (c : Dev nD) : FVec Ideal S2x1024 .f32 := m ((c : Thread nD τ).loc main_arg1)
abbrev argW (c : Dev nD) : FVec Ideal S1x1024x4096 .bf16 := m ((c : Thread nD τ).loc main_arg2)
abbrev argB (c : Dev nD) : FVec Ideal S2x1024 .f32 := m ((c : Thread nD τ).loc main_arg3)

/-- Where each window's block lies at point `t`: the tokens and the results at block row `t`, the other operands whole. -/
theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] ∧ win0_7.index t = ![t.val, 0] ∧ win0_8.index t = ![t.val, 0])

/-- The tokens' block at point `t`: rows `512 t` and on. -/
theorem ib0 (c : Dev nD) (t : Fin cfg0.N) (a : Fin 512) (k : Fin 1024) :
    iblk m c 0 t (ix2 a k) = argX m c (ix2 ⟨t.val * 512 + a.val, by have : t.val < 32 := N_0 ▸ t.isLt; omega⟩ k) := by
  unfold iblk argX
  entry_read
  blk_simp [idx t]
  pointwise
  blk_ext [idx t]

/-- The gains' block is the second row of gains. -/
theorem ib1 (c : Dev nD) (t : Fin cfg0.N) (k : Fin 1024) : iblk m c 1 t (ix2 0 k) = argG m c (ix2 1 k) := by
  unfold iblk argG
  entry_read
  blk_simp [idx t]
  pointwise
  blk_ext [idx t]

/-- The weights' block is the whole weight matrix. -/
theorem ib2 (c : Dev nD) (t : Fin cfg0.N) (k : Fin 1024) (l : Fin 4096) : iblk m c 2 t (ix2 k l) = argW m c (ix3 0 k l) := by
  unfold iblk argW
  entry_read
  blk_simp [idx t]
  pointwise
  blk_ext [idx t]

/-- The lower-bound parameters' block is the whole array. -/
theorem ib3 (c : Dev nD) (t : Fin cfg0.N) (k : Fin 2) (l : Fin 1024) : iblk m c 3 t (ix2 k l) = argB m c (ix2 k l) := by
  unfold iblk argB
  entry_read
  blk_simp [idx t]
  pointwise
  blk_ext [idx t]

/-- What the body computes from a row block, the gains, a weight block and the lower-bound parameters: the query block, -/
theorem query_apply (v0 : Vec Ideal S512x1024 .f32) (v1 : Vec Ideal S1x1024 .f32) (v4 : Vec Ideal S1024x1024 .bf16) (r : Fin 512) (l : Fin 1024)
    {p : EReal} (hp : Rows.proj (fun j => v0 (ix2 r j)) (fun j => v1 (ix2 0 j)) (fun j => v4 (ix2 j l)) = p) :
    k0_pay8 v0 v1 v4 (ix2 r l) = p * Ideal.logistic p * Ideal.ofBits .f32 0x3DB504F3#32 := by
  subst hp
  unfold_payloads
  pointwise [dot_S512x1024_S1024x1024_S512x1024_1_0_0_1_n_n, Rows.proj, Rows.norm, Rows.scale]

/-- the lower bound, -/
theorem lower_apply (v16 : Vec Ideal S2x1024 .f32) (l : Fin 1024) : k0_pay7 v16 (ix2 0 l) = Rows.lower (fun j => v16 (ix2 j l)) := by
  unfold_payloads
  pointwise [Rows.lower, Rows.soft2]

/-- the key block, -/
theorem key_apply (v0 : Vec Ideal S512x1024 .f32) (v1 : Vec Ideal S1x1024 .f32) (v4 : Vec Ideal S1024x1024 .bf16) (v16 : Vec Ideal S2x1024 .f32) (r : Fin 512) (l : Fin 1024)
    {p : EReal} (hp : Rows.proj (fun j => v0 (ix2 r j)) (fun j => v1 (ix2 0 j)) (fun j => v4 (ix2 j l)) = p) :
    k0_pay3 (k0_pay6 v0 v1) (k0_pay7 v16) (k0_pay9 (F := Ideal)) v4 (ix2 r l) = 1 - Rows.forget (fun j => v16 (ix2 j l)) p := by
  subst hp
  unfold Rows.forget
  rw [← lower_apply]
  unfold k0_pay3 k0_pay1 k0_pay6 k0_pay9
  pointwise [dot_S512x1024_S1024x1024_S512x1024_1_0_0_1_n_n, Rows.proj, Rows.norm, Rows.scale]

/-- the block of logarithms of the forget gate, -/
theorem logGate_apply (v0 : Vec Ideal S512x1024 .f32) (v1 : Vec Ideal S1x1024 .f32) (v4 : Vec Ideal S1024x1024 .bf16) (v16 : Vec Ideal S2x1024 .f32) (r : Fin 512) (l : Fin 1024)
    {p : EReal} (hp : Rows.proj (fun j => v0 (ix2 r j)) (fun j => v1 (ix2 0 j)) (fun j => v4 (ix2 j l)) = p) :
    k0_pay2 (k0_pay6 v0 v1) (k0_pay7 v16) (k0_pay9 (F := Ideal)) v4 (ix2 r l) = Ideal.log (Rows.forget (fun j => v16 (ix2 j l)) p) := by
  subst hp
  unfold Rows.forget
  rw [← lower_apply]
  unfold k0_pay2 k0_pay1 k0_pay6 k0_pay9
  pointwise [dot_S512x1024_S1024x1024_S512x1024_1_0_0_1_n_n, Rows.proj, Rows.norm, Rows.scale]

/-- the value block -/
theorem value_apply (v0 : Vec Ideal S512x1024 .f32) (v1 : Vec Ideal S1x1024 .f32) (v4 : Vec Ideal S1024x1024 .bf16) (r : Fin 512) (l : Fin 1024) :
    k0_pay4 (k0_pay6 v0 v1) v4 (ix2 r l) = Rows.proj (fun j => v0 (ix2 r j)) (fun j => v1 (ix2 0 j)) (fun j => v4 (ix2 j l)) := by
  unfold_payloads
  pointwise [dot_S512x1024_S1024x1024_S512x1024_1_0_0_1_n_n, Rows.proj, Rows.norm, Rows.scale]

/-- and the block of output gates. -/
theorem outGate_apply (v0 : Vec Ideal S512x1024 .f32) (v1 : Vec Ideal S1x1024 .f32) (v4 : Vec Ideal S1024x1024 .bf16) (r : Fin 512) (l : Fin 1024)
    {p : EReal} (hp : Rows.proj (fun j => v0 (ix2 r j)) (fun j => v1 (ix2 0 j)) (fun j => v4 (ix2 j l)) = p) :
    k0_pay5 (k0_pay6 v0 v1) v4 (ix2 r l) = p * Ideal.logistic p := by
  subst hp
  unfold_payloads
  pointwise [dot_S512x1024_S1024x1024_S512x1024_1_0_0_1_n_n, Rows.proj, Rows.norm, Rows.scale]

/-- The row block's row and one column of the weights at point `t` are the arguments'. -/
theorem part_iblk (c : Dev nD) (t : Fin cfg0.N) (v4 : Vec Ideal S1024x1024 .bf16) (a : Fin 512) (b : Fin 1024) (e : Fin 4096)
    (h : ∀ k, v4 (ix2 k b) = iblk m c 2 t (ix2 k e)) :
    Rows.proj (fun j => iblk m c 0 t (ix2 a j)) (fun j => iblk m c 1 t (ix2 0 j)) (fun j => v4 (ix2 j b))
      = part (argX m c) (argG m c) (argW m c) ⟨t.val * 512 + a.val, by have : t.val < 32 := N_0 ▸ t.isLt; omega⟩ e :=
  Rows.proj_congr (fun k => ib0 m c t _ _) (fun k => ib1 m c t _) (fun k => (h k).trans (ib2 m c t k e))

/-- The body's row and column at point `t` are the arguments', the weights' columns starting at `e - l`. -/
theorem part_block (c : Dev nD) (t : Fin cfg0.N) (v4 : Vec Ideal S1024x1024 .bf16) (a : Fin 512) (b : Fin 1024) (e : Fin 4096)
    (h : ∀ k, v4 (ix2 k b) = iblk m c 2 t (ix2 k e)) :
    Rows.proj (fun j => View.ld (iblk m c 0 t) r0_0 (ix2 a j)) (fun j => View.ld (iblk m c 1 t) r0_1 (ix2 0 j)) (fun j => v4 (ix2 j b))
      = part (argX m c) (argG m c) (argW m c) ⟨t.val * 512 + a.val, by have : t.val < 32 := N_0 ▸ t.isLt; omega⟩ e :=
  Rows.proj_congr (fun k => by pointwise; exact (ib0 m c t _ _).trans (by blk_ext [idx t])) (fun k => by pointwise; exact (ib1 m c t _).trans (by blk_ext [idx t]))
    (fun k => (h k).trans (ib2 m c t k e))

/-- The lower-bound parameters the body reads at column `b`. -/
theorem param_block (c : Dev nD) (t : Fin cfg0.N) (b : Fin 1024) :
    (fun j => View.ld (iblk m c 3 t) r0_2 (ix2 j b)) = fun j => argB m c (ix2 j b) :=
  funext fun k => by pointwise; exact (ib3 m c t _ _).trans (by blk_ext [idx t])

/-- The query array ends holding the queries, -/
theorem final4 (c : Dev nD) : (dats m 0 c).arrAt 4 cfg0.N = query (argX m c) (argG m c) (argW m c) := by
  refine (dats m 0 c).arrAt_eq_of_covers 4 _ (by decide +kernel) fun t hf y => ?_
  blk_simp
  rw [after0_4]
  frame_out
  obtain ⟨a, b, rfl⟩ : ∃ (a : Fin 512) (b : Fin 1024), y = ix2 a b := ⟨y 0, y 1, eq_ix2 y⟩
  rw [show ((View.whole main_v4_0).slice (win0_4.rect t)).emb (ix2 a b) = ix2 ⟨t.val * 512 + a.val, by have : t.val < 32 := N_0 ▸ t.isLt; omega⟩ b by blk_ext [idx t]]
  have h := query_apply (iblk m c 0 t) (iblk m c 1 t) (View.ld (iblk m c 2 t) r0_3) a b
    (part_iblk m c t _ a b ⟨b.val, by omega⟩ (fun k => by pointwise; blk_ext [idx t]))
  exact h

/-- the key array the keys, -/
theorem final5 (c : Dev nD) : (dats m 0 c).arrAt 5 cfg0.N = key (argX m c) (argG m c) (argW m c) (argB m c) := by
  refine (dats m 0 c).arrAt_eq_of_covers 5 _ (by decide +kernel) fun t hf y => ?_
  blk_simp
  rw [after0_5]
  frame_out
  obtain ⟨a, b, rfl⟩ : ∃ (a : Fin 512) (b : Fin 1024), y = ix2 a b := ⟨y 0, y 1, eq_ix2 y⟩
  rw [show ((View.whole main_v4_1).slice (win0_5.rect t)).emb (ix2 a b) = ix2 ⟨t.val * 512 + a.val, by have : t.val < 32 := N_0 ▸ t.isLt; omega⟩ b by blk_ext [idx t]]
  refine (key_apply _ _ _ _ a b (part_block m c t _ a b ⟨1024 + b.val, by omega⟩ (fun k => by pointwise; blk_ext [idx t]))).trans ?_
  rw [param_block]
  rfl

/-- the value array the values, -/
theorem final6 (c : Dev nD) : (dats m 0 c).arrAt 6 cfg0.N = value (argX m c) (argG m c) (argW m c) := by
  refine (dats m 0 c).arrAt_eq_of_covers 6 _ (by decide +kernel) fun t hf y => ?_
  blk_simp
  rw [after0_6]
  frame_out
  obtain ⟨a, b, rfl⟩ : ∃ (a : Fin 512) (b : Fin 1024), y = ix2 a b := ⟨y 0, y 1, eq_ix2 y⟩
  rw [show ((View.whole main_v4_2).slice (win0_6.rect t)).emb (ix2 a b) = ix2 ⟨t.val * 512 + a.val, by have : t.val < 32 := N_0 ▸ t.isLt; omega⟩ b by blk_ext [idx t]]
  exact (value_apply _ _ _ a b).trans (part_block m c t _ a b ⟨2048 + b.val, by omega⟩ (fun k => by pointwise; blk_ext [idx t]))

/-- the next array the logarithms of the forget gates -/
theorem final7 (c : Dev nD) : (dats m 0 c).arrAt 7 cfg0.N = logGate (argX m c) (argG m c) (argW m c) (argB m c) := by
  refine (dats m 0 c).arrAt_eq_of_covers 7 _ (by decide +kernel) fun t hf y => ?_
  blk_simp
  rw [after0_7]
  frame_out
  obtain ⟨a, b, rfl⟩ : ∃ (a : Fin 512) (b : Fin 1024), y = ix2 a b := ⟨y 0, y 1, eq_ix2 y⟩
  rw [show ((View.whole main_v4_3).slice (win0_7.rect t)).emb (ix2 a b) = ix2 ⟨t.val * 512 + a.val, by have : t.val < 32 := N_0 ▸ t.isLt; omega⟩ b by blk_ext [idx t]]
  refine (logGate_apply _ _ _ _ a b (part_block m c t _ a b ⟨1024 + b.val, by omega⟩ (fun k => by pointwise; blk_ext [idx t]))).trans ?_
  rw [param_block]
  rfl

/-- and the last the output gates. -/
theorem final8 (c : Dev nD) : (dats m 0 c).arrAt 8 cfg0.N = outGate (argX m c) (argG m c) (argW m c) := by
  refine (dats m 0 c).arrAt_eq_of_covers 8 _ (by decide +kernel) fun t hf y => ?_
  blk_simp
  rw [after0_8]
  frame_out
  obtain ⟨a, b, rfl⟩ : ∃ (a : Fin 512) (b : Fin 1024), y = ix2 a b := ⟨y 0, y 1, eq_ix2 y⟩
  rw [show ((View.whole main_v4_4).slice (win0_8.rect t)).emb (ix2 a b) = ix2 ⟨t.val * 512 + a.val, by have : t.val < 32 := N_0 ▸ t.isLt; omega⟩ b by blk_ext [idx t]]
  refine (outGate_apply _ _ _ a b (part_block m c t _ a b ⟨3072 + b.val, by omega⟩ (fun k => by pointwise; blk_ext [idx t]))).trans ?_
  rfl

end Cert.HgrnInIdeal.RefValue

namespace Cert.HgrnInRefIdeal.RefValue

open Cert.HgrnInRefIdeal Cert.HgrnInRefIdeal.Gen

/-- The reference's softmax of the two rows of lower-bound parameters, -/
def soft (v : FVec Ideal S2x1024 .f32) : FVec Ideal S2x1024 .f32 :=
  Host.divf (Host.exp (subf v (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf v (constant S_ .f32 0xFF800000#32) reducesTo_S2x1024_S1024_d0 h_S_)))))) (broadcastInDim S2x1024 ![0, 1] bcast_S1x1024_S2x1024_0_1 (broadcastInDim S1x1024 ![1] bcast_S1024_S1x1024_1 (Host.reduceAdd (Host.exp (subf v (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf v (constant S_ .f32 0xFF800000#32) reducesTo_S2x1024_S1024_d0 h_S_)))))) (constant S_ .f32 0x00000000#32) reducesTo_S2x1024_S1024_d0 h_S_)))

/-- column by column the two weights. -/
theorem soft_apply (v : FVec Ideal S2x1024 .f32) (r : Fin 2) (l : Fin 1024) : soft v (ix2 r l) = Rows.soft2 (fun j => v (ix2 j l)) r := by
  unfold soft
  pointwise [Rows.soft2, Rows.max_fold]

/-- Its running sum down the rows, -/
def cum (v : FVec Ideal S2x1024 .f32) : FVec Ideal S2x1024 .f32 :=
  Host.reduceWindowAdd ![2, 1] ![1, 1] ![1, 0] ![0, 0] (soft v) (broadcastInDim S_ ![] bcast_S_S_ (constant S_ .f32 0x00000000#32)) reduceWindows_S2x1024_S2x1024_w2s1p1_0_w1s1p0_0 h_S_

/-- whose first row is the first weight and whose second row is the sum of both. -/
theorem cum_apply (v : FVec Ideal S2x1024 .f32) (r : Fin 2) (l : Fin 1024) :
    cum v (ix2 r l) = if r = 0 then Rows.soft2 (fun j => v (ix2 j l)) 0 else (Rows.soft2 (fun j => v (ix2 j l)) 0 + Rows.soft2 (fun j => v (ix2 j l)) 1 : EReal) := by
  unfold cum
  rw [Rows.running2 _ _ _ _ (by pointwise), soft_apply, soft_apply]

/-- The lower bound of the second layer, -/
def low (v : FVec Ideal S2x1024 .f32) : FVec Ideal S1024 .f32 :=
  shapeCast _ (extractStridedSlice S1x1024 ![1, 0] (subf (cum v) (broadcastInDim S2x1024 ![0, 1] bcast_S1x1024_S2x1024_0_1 (extractStridedSlice S1x1024 ![0, 0] (cum v) slices_S2x1024_S1x1024_0_0))) slices_S2x1024_S1x1024_1_0) shapeCasts_S1x1024_S1024

/-- at column `l`. -/
theorem low_apply (v : FVec Ideal S2x1024 .f32) (l : Fin 1024) : low v (ix1 l) = Rows.lower (fun j => v (ix2 j l)) := by
  unfold low
  pointwise [cum_apply, Rows.lower]

/-- The reference's fused product, before it is cut into its four parts. -/
def fused (x : FVec Ideal S16384x1024 .f32) (g : FVec Ideal S2x1024 .f32) (w : FVec Ideal S1x1024x4096 .bf16) : FVec Ideal S16384x4096 .f32 :=
  Host.dotGeneral dot_S16384x1024_S1024x4096_S16384x4096_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] g slices_S2x1024_S1x1024_1_0) shapeCasts_S1x1024_S1024)))) (extf .f32 (shapeCast _ w shapeCasts_S1x1024x4096_S1024x4096) bitsLt_bf16_f32)

/-- At row `s` and column `e` it is that row, normalized, times that column. -/
theorem fused_apply (x : FVec Ideal S16384x1024 .f32) (g : FVec Ideal S2x1024 .f32) (w : FVec Ideal S1x1024x4096 .bf16) (s : Fin 16384) (e : Fin 4096) :
    fused x g w (ix2 s e) = Rows.proj (fun j => x (ix2 s j)) (fun j => g (ix2 1 j)) (fun j => w (ix3 0 j e)) := by
  unfold fused
  pointwise [dot_S16384x1024_S1024x4096_S16384x4096_1_0_0_1_n_n, Rows.proj, Rows.norm, Rows.scale]

/-- The reference's forget gate, -/
def gate (x : FVec Ideal S16384x1024 .f32) (g : FVec Ideal S2x1024 .f32) (w : FVec Ideal S1x1024x4096 .bf16) (b : FVec Ideal S2x1024 .f32) : FVec Ideal S16384x1024 .f32 :=
  addf (broadcastInDim S16384x1024 ![0, 1] bcast_S1x1024_S16384x1024_0_1 (broadcastInDim S1x1024 ![1] bcast_S1024_S1x1024_1 (low b))) (mulf (broadcastInDim S16384x1024 ![0, 1] bcast_S1x1024_S16384x1024_0_1 (broadcastInDim S1x1024 ![1] bcast_S1024_S1x1024_1 (subf (broadcastInDim S1024 ![] bcast_S_S1024 (constant S_ .f32 0x3F800000#32)) (low b)))) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 1024] (fused x g w) slices_S16384x4096_S16384x1024_0_1024))))))

/-- which is the kernel's, -/
theorem gate_eq (x : FVec Ideal S16384x1024 .f32) (g : FVec Ideal S2x1024 .f32) (w : FVec Ideal S1x1024x4096 .bf16) (b : FVec Ideal S2x1024 .f32) :
    gate x g w b = HgrnInIdeal.RefValue.gate x g w b := by
  funext i
  obtain ⟨r, l, rfl⟩ : ∃ (r : Fin 16384) (l : Fin 1024), i = ix2 r l := ⟨i 0, i 1, eq_ix2 i⟩
  unfold gate
  pointwise [low_apply, Rows.forget, fused_apply, HgrnInIdeal.RefValue.gate, HgrnInIdeal.RefValue.part, Ideal.logistic]

/-- the queries, -/
theorem query_eq (x : FVec Ideal S16384x1024 .f32) (g : FVec Ideal S2x1024 .f32) (w : FVec Ideal S1x1024x4096 .bf16) :
    mulf (mulf (extractStridedSlice S16384x1024 ![0, 0] (fused x g w) slices_S16384x4096_S16384x1024_0_0) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 0] (fused x g w) slices_S16384x4096_S16384x1024_0_0)))))) (broadcastInDim S16384x1024 ![] bcast_S_S16384x1024 (constant S_ .f32 0x3DB504F3#32)) = HgrnInIdeal.RefValue.query x g w := by
  funext i
  obtain ⟨r, l, rfl⟩ : ∃ (r : Fin 16384) (l : Fin 1024), i = ix2 r l := ⟨i 0, i 1, eq_ix2 i⟩
  pointwise [fused_apply, HgrnInIdeal.RefValue.query, HgrnInIdeal.RefValue.part, Ideal.logistic]

/-- the keys, -/
theorem key_eq (x : FVec Ideal S16384x1024 .f32) (g : FVec Ideal S2x1024 .f32) (w : FVec Ideal S1x1024x4096 .bf16) (b : FVec Ideal S2x1024 .f32) :
    subf (broadcastInDim S16384x1024 ![] bcast_S_S16384x1024 (constant S_ .f32 0x3F800000#32)) (gate x g w b) = HgrnInIdeal.RefValue.key x g w b := by
  rw [gate_eq]
  funext i
  pointwise [HgrnInIdeal.RefValue.key]

/-- the values, -/
theorem value_eq (x : FVec Ideal S16384x1024 .f32) (g : FVec Ideal S2x1024 .f32) (w : FVec Ideal S1x1024x4096 .bf16) :
    extractStridedSlice S16384x1024 ![0, 2048] (fused x g w) slices_S16384x4096_S16384x1024_0_2048 = HgrnInIdeal.RefValue.value x g w := by
  funext i
  obtain ⟨r, l, rfl⟩ : ∃ (r : Fin 16384) (l : Fin 1024), i = ix2 r l := ⟨i 0, i 1, eq_ix2 i⟩
  pointwise [fused_apply, HgrnInIdeal.RefValue.value, HgrnInIdeal.RefValue.part, Ideal.logistic]

/-- the logarithms of the forget gates -/
theorem logGate_eq (x : FVec Ideal S16384x1024 .f32) (g : FVec Ideal S2x1024 .f32) (w : FVec Ideal S1x1024x4096 .bf16) (b : FVec Ideal S2x1024 .f32) :
    Host.log (gate x g w b) = HgrnInIdeal.RefValue.logGate x g w b := by
  rw [gate_eq]
  funext i
  pointwise [HgrnInIdeal.RefValue.logGate]

/-- and the output gates. -/
theorem outGate_eq (x : FVec Ideal S16384x1024 .f32) (g : FVec Ideal S2x1024 .f32) (w : FVec Ideal S1x1024x4096 .bf16) :
    mulf (extractStridedSlice S16384x1024 ![0, 3072] (fused x g w) slices_S16384x4096_S16384x1024_0_3072) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3072] (fused x g w) slices_S16384x4096_S16384x1024_0_3072))))) = HgrnInIdeal.RefValue.outGate x g w := by
  funext i
  obtain ⟨r, l, rfl⟩ : ∃ (r : Fin 16384) (l : Fin 1024), i = ix2 r l := ⟨i 0, i 1, eq_ix2 i⟩
  pointwise [fused_apply, HgrnInIdeal.RefValue.outGate, HgrnInIdeal.RefValue.part, Ideal.logistic]

end Cert.HgrnInRefIdeal.RefValue

namespace Cert.Proof.HgrnInClaims

/-- The frames: the kernel's two programs leave their arguments as launched, by their generated runs, -/
theorem frame_p : Cert.quiescent_HgrnIn := fun m ρ _ => Cert.HgrnIn.Gen.frame m ρ
theorem frame_pi : Cert.quiescent_HgrnInIdeal := fun m ρ _ => Cert.HgrnInIdeal.Gen.frame m ρ
/-- and so does the reference. -/
theorem frame_ri : Cert.quiescent_HgrnInRefIdeal := fun m ρ _ =>
  (θ_run Cert.HgrnInRefIdeal.defs _ _).mono (fun r h => ⟨fun c => (h c).2.2.2.2.2,
      Idealize.ShloMosaic.sem_eq_zero_of_no_sems (by decide) r.2⟩)
    (Cert.HgrnInRefIdeal.Value.run (F := Ideal) m ρ)

/-- No operation was rewritten. -/
theorem preserves : Cert.preserves_HgrnIn_HgrnInIdeal := trivial

/-- On the extended reals the kernel's five results are the reference's. -/
theorem algebraic : Cert.algebraic_HgrnInIdeal_HgrnInRefIdeal := by
  intro m ρ m' ρ' _ hagree
  refine ⟨fun c => HgrnInIdeal.RefValue.query (HgrnInIdeal.RefValue.argX m c) (HgrnInIdeal.RefValue.argG m c) (HgrnInIdeal.RefValue.argW m c), fun c => HgrnInIdeal.RefValue.key (HgrnInIdeal.RefValue.argX m c) (HgrnInIdeal.RefValue.argG m c) (HgrnInIdeal.RefValue.argW m c) (HgrnInIdeal.RefValue.argB m c), fun c => HgrnInIdeal.RefValue.value (HgrnInIdeal.RefValue.argX m c) (HgrnInIdeal.RefValue.argG m c) (HgrnInIdeal.RefValue.argW m c), fun c => HgrnInIdeal.RefValue.logGate (HgrnInIdeal.RefValue.argX m c) (HgrnInIdeal.RefValue.argG m c) (HgrnInIdeal.RefValue.argW m c) (HgrnInIdeal.RefValue.argB m c), fun c => HgrnInIdeal.RefValue.outGate (HgrnInIdeal.RefValue.argX m c) (HgrnInIdeal.RefValue.argG m c) (HgrnInIdeal.RefValue.argW m c), ?_, ?_⟩
  · exact (θ_run Cert.HgrnInIdeal.defs _ _).mono
      (fun _ h c => ⟨(h c).1.trans (HgrnInIdeal.RefValue.final4 m c), (h c).2.1.trans (HgrnInIdeal.RefValue.final5 m c),
        (h c).2.2.1.trans (HgrnInIdeal.RefValue.final6 m c), (h c).2.2.2.1.trans (HgrnInIdeal.RefValue.final7 m c),
        (h c).2.2.2.2.1.trans (HgrnInIdeal.RefValue.final8 m c), (h c).2.2.2.2.2⟩)
      (Cert.HgrnInIdeal.Value.run_blocks (F := Ideal) m ρ)
  have e : ∀ c, HgrnInIdeal.RefValue.argX m c = m' ((c.tc : Thread Cert.HgrnInRefIdeal.nD Cert.HgrnInRefIdeal.τ).loc Cert.HgrnInRefIdeal.main_arg0)
      ∧ HgrnInIdeal.RefValue.argG m c = m' ((c.tc : Thread Cert.HgrnInRefIdeal.nD Cert.HgrnInRefIdeal.τ).loc Cert.HgrnInRefIdeal.main_arg1)
      ∧ HgrnInIdeal.RefValue.argW m c = m' ((c.tc : Thread Cert.HgrnInRefIdeal.nD Cert.HgrnInRefIdeal.τ).loc Cert.HgrnInRefIdeal.main_arg2)
      ∧ HgrnInIdeal.RefValue.argB m c = m' ((c.tc : Thread Cert.HgrnInRefIdeal.nD Cert.HgrnInRefIdeal.τ).loc Cert.HgrnInRefIdeal.main_arg3) := fun c =>
    ⟨(hagree c).1.symm, (hagree c).2.1.symm, (hagree c).2.2.1.symm, (hagree c).2.2.2.symm⟩
  simp only [e]
  exact (θ_run Cert.HgrnInRefIdeal.defs _ _).mono (fun _ h c => ⟨(h c).1.trans (HgrnInRefIdeal.RefValue.query_eq _ _ _),
      (h c).2.1.trans (HgrnInRefIdeal.RefValue.key_eq _ _ _ _), (h c).2.2.1.trans (HgrnInRefIdeal.RefValue.value_eq _ _ _),
      (h c).2.2.2.1.trans (HgrnInRefIdeal.RefValue.logGate_eq _ _ _ _), (h c).2.2.2.2.1.trans (HgrnInRefIdeal.RefValue.outGate_eq _ _ _),
      (h c).2.2.2.2.2⟩)
    (Cert.HgrnInRefIdeal.Value.run (F := Ideal) m' ρ')

end Cert.Proof.HgrnInClaims

end
-- ==== Proof.QkvSValue.lean ====
/-
  The query, key and value projections of the sample: 32 sequences of four tokens, padded to sixteen rows each. The
  kernel projects the padded rows, the reference the tokens, and a row of zeros projects to zeros.
-/
module

public import proofs.«01_k».proof.Defs
public import proofs.«01_k».proof.Proof.Rows
public import proofs.«01_k».proof.Proof.Gen.QkvS.Frame
public import proofs.«01_k».proof.Proof.Gen.QkvSIdeal.Value
public import proofs.«01_k».proof.Proof.Gen.QkvSRefIdeal.Run
public import Idealize.ShloMosaic.Lib.Pipeline.ValueKit
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.QkvSIdeal.RefValue

open Cert.QkvSIdeal Cert.QkvSIdeal.Gen
open Idealize.ShloMosaic.Pipeline (Dat)

variable (m : (ℓ : Loc nD τ sig) → Buf (Elt Ideal) ℓ) (ρ : Dev nD → PrngReg)

/-- Row `r` of the padded tokens, normalized, times column `off + l` of the weights. -/
def part (x : FVec Ideal S32x4x1024 .f32) (g : FVec Ideal S2x1024 .f32) (w : FVec Ideal S1x1024x3072 .bf16) (off : Nat) (hoff : off ≤ 2048) :
    S512x1024.Idx → EReal := fun i =>
  Rows.proj (Rows.stepRow x (i 0)) (fun j => g (ix2 0 j))
    (fun j => w (ix3 0 j ⟨off + (i 1 : Nat), by have : (i 1 : Nat) < 1024 := (i 1).isLt; omega⟩))

/-- The three parts at device `c`'s arguments. -/
abbrev G (c : Dev nD) (off : Nat) (hoff : off ≤ 2048) : S512x1024.Idx → EReal :=
  part (m ((c : Thread nD τ).loc main_arg0)) (m ((c : Thread nD τ).loc main_arg1)) (m ((c : Thread nD τ).loc main_arg2)) off hoff

/-- Where each window's block lies at point `t`: the tokens and the results at block row `t`, the gains and weights whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0])

/-- The tokens' block is the padded rows, -/
theorem ib0 (c : Dev nD) (t : Fin cfg0.N) (a : Fin 512) (k : Fin 1024) :
    iblk m c 0 t (ix2 a k) = Rows.stepRow (m ((c : Thread nD τ).loc main_arg0)) a k := by
  have ht : t.val = 0 := by have : t.val < 1 := N_0 ▸ t.isLt; omega
  unfold iblk
  entry_read
  blk_simp [idx t]
  simp only [hostOps0, hostOps0_1, hostOps0_2, List.flatten_cons, List.flatten_nil, List.append_nil, List.cons_append, List.nil_append]
  rw [show ((View.whole main_v1).slice (win0_0.rect t)).emb (ix2 a k) = ix2 a k by blk_ext [idx t]]
  after_reads_at
  rw [Rows.zero_int]
  exact Rows.stepRow_eq _ a k

/-- the gains' block the first row of gains, -/
theorem ib1 (c : Dev nD) (t : Fin cfg0.N) (k : Fin 1024) :
    iblk m c 1 t (ix2 0 k) = m ((c : Thread nD τ).loc main_arg1) (ix2 0 k) := by
  unfold iblk
  entry_read
  blk_simp [idx t]
  simp only [hostOps0, hostOps0_1, hostOps0_2, List.flatten_cons, List.flatten_nil, List.append_nil, List.cons_append, List.nil_append]
  rw [show ((View.whole main_v5).slice (win0_1.rect t)).emb (ix2 0 k) = ix2 0 k by blk_ext [idx t]]
  after_reads_at

/-- and the weights' block the whole weight matrix. -/
theorem ib2 (c : Dev nD) (t : Fin cfg0.N) (k : Fin 1024) (l : Fin 3072) :
    iblk m c 2 t (ix2 k l) = m ((c : Thread nD τ).loc main_arg2) (ix3 0 k l) := by
  unfold iblk
  entry_read
  blk_simp [idx t]
  simp only [hostOps0, hostOps0_1, hostOps0_2, List.flatten_cons, List.flatten_nil, List.append_nil, List.cons_append, List.nil_append]
  rw [show ((View.whole main_v4).slice (win0_2.rect t)).emb (ix2 k l) = ix2 k l by blk_ext [idx t]]
  after_reads_at

/-- What the body computes for one result block, at row `r` and column `l`. -/
theorem pay_apply (v0 : Vec Ideal S512x1024 .f32) (v2 : Vec Ideal S1x1024 .f32) (v4 : Vec Ideal S1024x1024 .bf16) (r : Fin 512) (l : Fin 1024) :
    k0_pay2 v0 v2 v4 (ix2 r l) = Rows.proj (fun j => v0 (ix2 r j)) (fun j => v2 (ix2 0 j)) (fun j => v4 (ix2 j l)) := by
  unfold_payloads
  pointwise [dot_S512x1024_S1024x1024_S512x1024_1_0_0_1_n_n, Rows.proj, Rows.norm, Rows.scale]

/-- The body's three results are one function of the row block, the gains and the weight block. -/
theorem pay3_eq : @k0_pay3 Ideal _ = k0_pay2 := rfl
theorem pay4_eq : @k0_pay4 Ideal _ = k0_pay2 := rfl

/-- The query array ends holding its part, -/
theorem final3 (c : Dev nD) : (dats m 0 c).arrAt 3 cfg0.N = G m c 0 (by decide) := by
  refine (dats m 0 c).arrAt_eq_of_covers 3 _ (by decide +kernel) fun t hf y => ?_
  blk_simp
  rw [after0_3]
  frame_out
  obtain ⟨a, b, rfl⟩ : ∃ (a : Fin 512) (b : Fin 1024), y = ix2 a b := ⟨y 0, y 1, eq_ix2 y⟩
  refine (pay_apply _ _ _ a b).trans ?_
  exact Rows.proj_congr (fun k => (ib0 m c t _ k).trans (congrArg (fun R => Rows.stepRow (m ((c : Thread nD τ).loc main_arg0)) R k) (Fin.ext (by blk_simp [idx t])))) (fun k => ib1 m c t k)
    (fun k => by pointwise; exact (ib2 m c t _ _).trans (by blk_ext [idx t]))

/-- the key array, -/
theorem final4 (c : Dev nD) : (dats m 0 c).arrAt 4 cfg0.N = G m c 1024 (by decide) := by
  refine (dats m 0 c).arrAt_eq_of_covers 4 _ (by decide +kernel) fun t hf y => ?_
  blk_simp
  rw [after0_4]
  frame_out
  obtain ⟨a, b, rfl⟩ : ∃ (a : Fin 512) (b : Fin 1024), y = ix2 a b := ⟨y 0, y 1, eq_ix2 y⟩
  rw [pay3_eq]
  refine (pay_apply _ _ _ a b).trans ?_
  exact Rows.proj_congr (fun k => (ib0 m c t _ k).trans (congrArg (fun R => Rows.stepRow (m ((c : Thread nD τ).loc main_arg0)) R k) (Fin.ext (by blk_simp [idx t])))) (fun k => ib1 m c t k)
    (fun k => by pointwise; exact (ib2 m c t _ _).trans (by blk_ext [idx t]))

/-- and the value array. -/
theorem final5 (c : Dev nD) : (dats m 0 c).arrAt 5 cfg0.N = G m c 2048 (by decide) := by
  refine (dats m 0 c).arrAt_eq_of_covers 5 _ (by decide +kernel) fun t hf y => ?_
  blk_simp
  rw [after0_5]
  frame_out
  obtain ⟨a, b, rfl⟩ : ∃ (a : Fin 512) (b : Fin 1024), y = ix2 a b := ⟨y 0, y 1, eq_ix2 y⟩
  rw [pay4_eq]
  refine (pay_apply _ _ _ a b).trans ?_
  exact Rows.proj_congr (fun k => (ib0 m c t _ k).trans (congrArg (fun R => Rows.stepRow (m ((c : Thread nD τ).loc main_arg0)) R k) (Fin.ext (by blk_simp [idx t])))) (fun k => ib1 m c t k)
    (fun k => by pointwise; exact (ib2 m c t _ _).trans (by blk_ext [idx t]))

end Cert.QkvSIdeal.RefValue

namespace Cert.QkvSRefIdeal.RefValue

open Cert.QkvSRefIdeal Cert.QkvSRefIdeal.Gen

/-- The reference's fused product, before it is cut into queries, keys and values. -/
def fused (x : FVec Ideal S32x4x1024 .f32) (g : FVec Ideal S2x1024 .f32) (w : FVec Ideal S1x1024x3072 .bf16) : FVec Ideal S32x4x3072 .f32 :=
  Host.dotGeneral dot_S32x4x1024_S1024x3072_S32x4x3072_2_0_01_1_n_n none (mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (shapeCast _ (extractStridedSlice S1x1024 ![0, 0] g slices_S2x1024_S1x1024_0_0) shapeCasts_S1x1024_S1024)))) (extf .f32 (shapeCast _ w shapeCasts_S1x1024x3072_S1024x3072) bitsLt_bf16_f32)

/-- At sequence `b`, position `s` and column `e` it is that row, normalized, times that column. -/
theorem fused_apply (x : FVec Ideal S32x4x1024 .f32) (g : FVec Ideal S2x1024 .f32) (w : FVec Ideal S1x1024x3072 .bf16) (b : Fin 32) (s : Fin 4) (e : Fin 3072) :
    fused x g w (ix3 b s e) = Rows.proj (fun j => x (ix3 b s j)) (fun j => g (ix2 0 j)) (fun j => w (ix3 0 j e)) := by
  unfold fused
  pointwise [dot_S32x4x1024_S1024x3072_S32x4x3072_2_0_01_1_n_n, Rows.proj, Rows.norm, Rows.scale]

/-- The reference's rows of one of the three cuts of the fused product, padded, -/
def rows (o : Nat) (h : S32x4x3x1024.Slices ![0, 0, o, 0] S32x4x1x1024) (x : FVec Ideal S32x4x1024 .f32) (g : FVec Ideal S2x1024 .f32) (w : FVec Ideal S1x1024x3072 .bf16) : FVec Ideal S512x1024 .f32 :=
  shapeCast S512x1024 (pad S32x16x1024 ![0, 0, 0] ![0, 12, 0] ![0, 0, 0] (shapeCast S32x4x1024 (extractStridedSlice S32x4x1x1024 ![0, 0, o, 0] (shapeCast S32x4x3x1024 (fused x g w) shapeCasts_S32x4x3072_S32x4x3x1024) h) shapeCasts_S32x4x1x1024_S32x4x1024) (sitofp .f32 (constantI S_ 32 0#32)) pads_S32x4x1024_S32x16x1024_000_0120_000 h_S_) shapeCasts_S32x16x1024_S512x1024

/-- are the kernel's part. -/
theorem rows_eq (o : Nat) (ho : o < 3) (h : S32x4x3x1024.Slices ![0, 0, o, 0] S32x4x1x1024) (x : FVec Ideal S32x4x1024 .f32) (g : FVec Ideal S2x1024 .f32) (w : FVec Ideal S1x1024x3072 .bf16) :
    rows o h x g w = QkvSIdeal.RefValue.part x g w (o * 1024) (by omega) := by
  funext i
  obtain ⟨r, l, rfl⟩ : ∃ (r : Fin 512) (l : Fin 1024), i = ix2 r l := ⟨i 0, i 1, eq_ix2 i⟩
  unfold rows
  by_cases hr : r.val % 16 < 4
  · have e : (fun k => Rows.stepRow x r k) = fun k => x (ix3 ⟨r.val / 16, by omega⟩ ⟨r.val % 16, hr⟩ k) := funext fun k => dif_pos hr
    pointwise [fused_apply, QkvSIdeal.RefValue.part, e, hr]
    exact dif_pos (by omega)
  · have e : (fun k => Rows.stepRow x r k) = fun _ => 0 := funext fun k => dif_neg hr
    pointwise [QkvSIdeal.RefValue.part, e, hr]
    exact (dif_neg fun q => q.2).trans (Rows.zero_int.trans (Rows.proj_zero (fun j => g (ix2 0 j)) (fun j => w (ix3 0 j ⟨o * 1024 + l.val, by omega⟩))).symm)

end Cert.QkvSRefIdeal.RefValue

namespace Cert.Proof.QkvSClaims

/-- The frames: the kernel's two programs leave their arguments as launched, by their generated runs, -/
theorem frame_p : Cert.quiescent_QkvS := fun m ρ _ => Cert.QkvS.Gen.frame m ρ
theorem frame_pi : Cert.quiescent_QkvSIdeal := fun m ρ _ => Cert.QkvSIdeal.Gen.frame m ρ
/-- and so does the reference. -/
theorem frame_ri : Cert.quiescent_QkvSRefIdeal := fun m ρ _ =>
  (θ_run Cert.QkvSRefIdeal.defs _ _).mono (fun r h => ⟨fun c => (h c).2.2.2,
      Idealize.ShloMosaic.sem_eq_zero_of_no_sems (by decide) r.2⟩)
    (Cert.QkvSRefIdeal.Value.run (F := Ideal) m ρ)

/-- No operation was rewritten. -/
theorem preserves : Cert.preserves_QkvS_QkvSIdeal := trivial

/-- On the extended reals the kernel's queries, keys and values are the reference's. -/
theorem algebraic : Cert.algebraic_QkvSIdeal_QkvSRefIdeal := by
  intro m ρ m' ρ' _ hagree
  refine ⟨fun c => QkvSIdeal.RefValue.G m c 0 (by decide), fun c => QkvSIdeal.RefValue.G m c 1024 (by decide),
    fun c => QkvSIdeal.RefValue.G m c 2048 (by decide), ?_, ?_⟩
  · exact (θ_run Cert.QkvSIdeal.defs _ _).mono
      (fun _ h c => ⟨(h c).1.trans (QkvSIdeal.RefValue.final3 m c), (h c).2.1.trans (QkvSIdeal.RefValue.final4 m c),
        (h c).2.2.1.trans (QkvSIdeal.RefValue.final5 m c), (h c).2.2.2⟩)
      (Cert.QkvSIdeal.Value.run_blocks (F := Ideal) m ρ)
  refine (θ_run Cert.QkvSRefIdeal.defs _ _).mono (fun _ h c => ⟨(h c).1.trans ?_, (h c).2.1.trans ?_, (h c).2.2.1.trans ?_, (h c).2.2.2⟩)
    (Cert.QkvSRefIdeal.Value.run (F := Ideal) m' ρ')
  all_goals
    unfold QkvSIdeal.RefValue.G
    rw [(hagree c).1, (hagree c).2.1, (hagree c).2.2]
  · exact QkvSRefIdeal.RefValue.rows_eq 0 (by decide) _ _ _ _
  · exact QkvSRefIdeal.RefValue.rows_eq 1 (by decide) _ _ _ _
  · exact QkvSRefIdeal.RefValue.rows_eq 2 (by decide) _ _ _ _

end Cert.Proof.QkvSClaims

end
-- ==== Proof.MlpSValue.lean ====
/-
  The output projection and the feed-forward part for the sample: 32 sequences of four tokens, padded to sixteen rows
  each, one block of 512 rows. The kernel works on the padded rows and the reference on the tokens; a row of zeros gives
  zeros. As for the prompt the kernel walks the 4096 hidden columns in four blocks and adds up in its output block.
-/
module

public import proofs.«01_k».proof.Defs
public import proofs.«01_k».proof.Proof.Rows
public import proofs.«01_k».proof.Proof.Gen.MlpS.Frame
public import proofs.«01_k».proof.Proof.Gen.MlpSIdeal.Value
public import proofs.«01_k».proof.Proof.Gen.MlpSRefIdeal.Run
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.MlpSIdeal.RefValue

open Cert.MlpSIdeal Cert.MlpSIdeal.Gen
open Idealize.ShloMosaic.Pipeline (Dat)

variable (m : (ℓ : Loc nD τ sig) → Buf (Elt Ideal) ℓ) (ρ : Dev nD → PrngReg)

/-- What the four points of a row block leave, point by point. The first: the output block is its own addition to zero, -/
theorem first_out (c : Dev nD) (t : Fin cfg0.N) (h0 : t.val % 4 = 0) :
    (outsAt0 m c t.val t.isLt).1 = k0_pay5 (k0_pay3 (iblk m c 0 t) (iblk m c 1 t) (iblk m c 2 t) (iblk m c 3 t)) (iblk m c 4 t) (k0_pay4 (F := Ideal)) (iblk m c 5 t) := by
  rw [outsAt0_A m c t h0 (by omega)]
  dsimp only
  unfold out0_A_7
  frame_out

/-- the first scratch array the stream's block, -/
theorem first_x1 (c : Dev nD) (t : Fin cfg0.N) (h0 : t.val % 4 = 0) :
    (outsAt0 m c t.val t.isLt).2.1 = k0_pay2 (iblk m c 0 t) (iblk m c 1 t) (iblk m c 2 t) := by
  rw [outsAt0_A m c t h0 (by omega)]
  dsimp only
  unfold sout0_A_0
  frame_out

/-- and the second the stream's block normalized. -/
theorem first_xn (c : Dev nD) (t : Fin cfg0.N) (h0 : t.val % 4 = 0) :
    (outsAt0 m c t.val t.isLt).2.2 = k0_pay3 (iblk m c 0 t) (iblk m c 1 t) (iblk m c 2 t) (iblk m c 3 t) := by
  rw [outsAt0_A m c t h0 (by omega)]
  dsimp only
  unfold sout0_A_1
  frame_out

/-- The contents after the point before `t`, spelled by that point's own number. -/
theorem prev_point (c : Dev nD) (t s : Fin cfg0.N) (e : t.val = s.val + 1) (h : t.val - 1 < cfg0.N) :
    outsAt0 m c (t.val - 1) h = outsAt0 m c s.val s.isLt := by
  have p : t.val - 1 = s.val := by omega
  generalize t.val - 1 = n at h p
  subst p
  rfl

/-- A middle point adds to the output block what its columns give, -/
theorem mid_out (c : Dev nD) (t s : Fin cfg0.N) (e : t.val = s.val + 1) (h0 : ¬ t.val % 4 = 0) (h1 : ¬ t.val % 4 = 3) :
    (outsAt0 m c t.val t.isLt).1
      = k0_pay5 (outsAt0 m c s.val s.isLt).2.2 (iblk m c 4 t) (outsAt0 m c s.val s.isLt).1 (iblk m c 5 t) := by
  rw [outsAt0_B m c t h0 h1]
  simp only [prev_point m c t s e]
  frame_out
  simp only [read_unread_whole]

/-- and keeps the stream's block -/
theorem mid_x1 (c : Dev nD) (t s : Fin cfg0.N) (e : t.val = s.val + 1) (h0 : ¬ t.val % 4 = 0) (h1 : ¬ t.val % 4 = 3) :
    (outsAt0 m c t.val t.isLt).2.1 = (outsAt0 m c s.val s.isLt).2.1 := by
  rw [outsAt0_B m c t h0 h1]
  simp only [prev_point m c t s e]
  unfold sout0_B_0
  rfl

/-- and the normalized block. -/
theorem mid_xn (c : Dev nD) (t s : Fin cfg0.N) (e : t.val = s.val + 1) (h0 : ¬ t.val % 4 = 0) (h1 : ¬ t.val % 4 = 3) :
    (outsAt0 m c t.val t.isLt).2.2 = (outsAt0 m c s.val s.isLt).2.2 := by
  rw [outsAt0_B m c t h0 h1]
  simp only [prev_point m c t s e]
  unfold sout0_B_1
  rfl

/-- The last point adds its own, then adds the stream and normalizes. -/
theorem last_out (c : Dev nD) (t s : Fin cfg0.N) (e : t.val = s.val + 1) (h1 : t.val % 4 = 3) :
    (outsAt0 m c t.val t.isLt).1
      = k0_pay6 (outsAt0 m c s.val s.isLt).2.1
          (k0_pay5 (outsAt0 m c s.val s.isLt).2.2 (iblk m c 4 t) (outsAt0 m c s.val s.isLt).1 (iblk m c 5 t))
          (iblk m c 6 t) := by
  rw [outsAt0_C m c t (by omega) h1]
  simp only [prev_point m c t s e]
  frame_out
  simp only [read_unread_whole]

/-- The point of column block `f`. -/
def pt (f : Fin 4) : Fin cfg0.N := ⟨f.val, lt_of_lt_of_eq f.isLt N_0.symm⟩

/-- After the last of the four points the output block holds the four additions, added to the stream and normalized. -/
theorem done (c : Dev nD) :
    (outsAt0 m c (pt 3).val (pt 3).isLt).1
      = k0_pay6 (k0_pay2 (iblk m c 0 (pt 0)) (iblk m c 1 (pt 0)) (iblk m c 2 (pt 0)))
          (List.foldl (fun acc f => k0_pay5 (k0_pay3 (iblk m c 0 (pt 0)) (iblk m c 1 (pt 0)) (iblk m c 2 (pt 0)) (iblk m c 3 (pt 0)))
            (iblk m c 4 (pt f)) acc (iblk m c 5 (pt f))) (k0_pay4 (F := Ideal)) [0, 1, 2, 3])
          (iblk m c 6 (pt 3)) := by
  have v : ∀ f, (pt f).val % 4 = f.val := fun f => Nat.mod_eq_of_lt f.isLt
  rw [last_out m c (pt 3) (pt 2) rfl (v 3),
    mid_x1 m c (pt 2) (pt 1) rfl (by rw [v]; decide) (by rw [v]; decide), mid_x1 m c (pt 1) (pt 0) rfl (by rw [v]; decide) (by rw [v]; decide),
    first_x1 m c (pt 0) (v 0),
    mid_xn m c (pt 2) (pt 1) rfl (by rw [v]; decide) (by rw [v]; decide), mid_xn m c (pt 1) (pt 0) rfl (by rw [v]; decide) (by rw [v]; decide),
    first_xn m c (pt 0) (v 0),
    mid_out m c (pt 2) (pt 1) rfl (by rw [v]; decide) (by rw [v]; decide), mid_out m c (pt 1) (pt 0) rfl (by rw [v]; decide) (by rw [v]; decide),
    mid_xn m c (pt 1) (pt 0) rfl (by rw [v]; decide) (by rw [v]; decide),
    first_xn m c (pt 0) (v 0), first_out m c (pt 0) (v 0)]
  rfl

/-- Where each window's block lies at point `t`: the hidden column block is `t`, the other operands are whole. -/
theorem idx : ∀ t : Fin cfg0.N, win0_0.index t = ![0, 0] ∧ win0_1.index t = ![0, 0]
    ∧ win0_2.index t = ![0, 0] ∧ win0_3.index t = ![0, 0] ∧ win0_4.index t = ![1, 0, t.val]
    ∧ win0_5.index t = ![1, t.val, 0] ∧ win0_6.index t = ![0, 0] ∧ win0_7.index t = ![0, 0] :=
  (by decide +kernel : ∀ t : Fin grid0.N, _)

/-- Device `c`'s seven arguments. -/
abbrev argX (c : Dev nD) : FVec Ideal S32x4x1024 .f32 := m ((c : Thread nD τ).loc main_arg0)
abbrev argO (c : Dev nD) : FVec Ideal S32x4x1024 .bf16 := m ((c : Thread nD τ).loc main_arg1)
abbrev argWo (c : Dev nD) : FVec Ideal S1024x1024 .bf16 := m ((c : Thread nD τ).loc main_arg2)
abbrev argG (c : Dev nD) : FVec Ideal S1024 .f32 := m ((c : Thread nD τ).loc main_arg3)
abbrev argUp (c : Dev nD) : FVec Ideal S2x1024x4096 .bf16 := m ((c : Thread nD τ).loc main_arg4)
abbrev argDown (c : Dev nD) : FVec Ideal S2x4096x1024 .bf16 := m ((c : Thread nD τ).loc main_arg5)
abbrev argF (c : Dev nD) : FVec Ideal S1024 .f32 := m ((c : Thread nD τ).loc main_arg6)

/-- There are four points. -/
theorem lt4 (t : Fin cfg0.N) : t.val < 4 := N_0 ▸ t.isLt

/-- The input blocks, entry by entry: the padded tokens, -/
theorem ib0 (c : Dev nD) (t : Fin cfg0.N) (a : Fin 512) (k : Fin 1024) : iblk m c 0 t (ix2 a k) = Rows.stepRow (argX m c) a k := by
  unfold iblk argX
  entry_read
  blk_simp [idx t]
  simp only [hostOps0, hostOps0_1, hostOps0_2, hostOps0_3, hostOps0_4, List.flatten_cons, List.flatten_nil, List.append_nil, List.cons_append, List.nil_append]
  rw [show ((View.whole main_v1).slice (win0_0.rect t)).emb (ix2 a k) = ix2 a k by blk_ext [idx t]]
  after_reads_at
  rw [Rows.zero_int]
  exact Rows.stepRow_eq _ a k

/-- the attention's padded rows, -/
theorem ib1 (c : Dev nD) (t : Fin cfg0.N) (a : Fin 512) (k : Fin 1024) : iblk m c 1 t (ix2 a k) = Rows.stepRow (argO m c) a k := by
  unfold iblk argO
  entry_read
  blk_simp [idx t]
  simp only [hostOps0, hostOps0_1, hostOps0_2, hostOps0_3, hostOps0_4, List.flatten_cons, List.flatten_nil, List.append_nil, List.cons_append, List.nil_append]
  rw [show ((View.whole main_v3).slice (win0_1.rect t)).emb (ix2 a k) = ix2 a k by blk_ext [idx t]]
  after_reads_at
  rw [show (FloatOps.sitofp .bf16 0#32 : Ideal .bf16) = (0 : EReal) from Rows.zero_int]
  exact Rows.stepRow_eq _ a k

/-- the output weights, -/
theorem ib2 (c : Dev nD) (t : Fin cfg0.N) (a k : Fin 1024) : iblk m c 2 t (ix2 a k) = argWo m c (ix2 a k) := by
  unfold iblk argWo
  entry_read
  blk_simp [idx t]
  pointwise
  blk_ext [idx t]

/-- the gains, -/
theorem ib3 (c : Dev nD) (t : Fin cfg0.N) (k : Fin 1024) : iblk m c 3 t (ix2 0 k) = argG m c (ix1 k) := by
  unfold iblk argG
  entry_read
  blk_simp [idx t]
  simp only [hostOps0, hostOps0_1, hostOps0_2, hostOps0_3, hostOps0_4, List.flatten_cons, List.flatten_nil, List.append_nil, List.cons_append, List.nil_append]
  rw [show ((View.whole main_v4).slice (win0_3.rect t)).emb (ix2 0 k) = ix2 0 k by blk_ext [idx t]]
  after_reads_at

/-- the second layer's up weights at the point's hidden columns, -/
theorem ib4 (c : Dev nD) (t : Fin cfg0.N) (a k : Fin 1024) :
    iblk m c 4 t (ix3 0 a k) = argUp m c (ix3 1 a ⟨t.val * 1024 + k.val, by have := lt4 t; omega⟩) := by
  unfold iblk argUp
  entry_read
  blk_simp [idx t]
  pointwise
  blk_ext [idx t]

/-- its down weights at the point's hidden rows -/
theorem ib5 (c : Dev nD) (t : Fin cfg0.N) (a k : Fin 1024) :
    iblk m c 5 t (ix3 0 a k) = argDown m c (ix3 1 ⟨t.val * 1024 + a.val, by have := lt4 t; omega⟩ k) := by
  unfold iblk argDown
  entry_read
  blk_simp [idx t]
  pointwise
  blk_ext [idx t]

/-- and the last gains. -/
theorem ib6 (c : Dev nD) (t : Fin cfg0.N) (k : Fin 1024) : iblk m c 6 t (ix2 0 k) = argF m c (ix1 k) := by
  unfold iblk argF
  entry_read
  blk_simp [idx t]
  simp only [hostOps0, hostOps0_1, hostOps0_2, hostOps0_3, hostOps0_4, List.flatten_cons, List.flatten_nil, List.append_nil, List.cons_append, List.nil_append]
  rw [show ((View.whole main_v5).slice (win0_6.rect t)).emb (ix2 0 k) = ix2 0 k by blk_ext [idx t]]
  after_reads_at

/-- What the body computes from its blocks, entry by entry: the stream, -/
theorem stream_apply (v21 : Vec Ideal S512x1024 .f32) (v22 : Vec Ideal S512x1024 .bf16) (v23 : Vec Ideal S1024x1024 .bf16) (a : Fin 512) (b : Fin 1024) :
    k0_pay2 v21 v22 v23 (ix2 a b) = v21 (ix2 a b) + ∑ k : Fin 1024, v22 (ix2 a k) * v23 (ix2 k b) := by
  unfold_payloads
  pointwise [dot_S512x1024_S1024x1024_S512x1024_1_0_0_1_n_n]

/-- the stream normalized, -/
theorem normed_apply (v21 : Vec Ideal S512x1024 .f32) (v22 : Vec Ideal S512x1024 .bf16) (v23 : Vec Ideal S1024x1024 .bf16) (v29 : Vec Ideal S1x1024 .f32) (a : Fin 512) (b : Fin 1024) :
    k0_pay3 v21 v22 v23 v29 (ix2 a b)
      = Rows.norm (fun j => v21 (ix2 a j) + ∑ k : Fin 1024, v22 (ix2 a k) * v23 (ix2 k j)) (fun j => v29 (ix2 0 j)) b := by
  unfold_payloads
  pointwise [dot_S512x1024_S1024x1024_S512x1024_1_0_0_1_n_n, Rows.norm, Rows.scale]

/-- zero, -/
theorem zero_apply (a : Fin 512) (b : Fin 1024) : k0_pay4 (F := Ideal) (ix2 a b) = 0 := by
  unfold_payloads
  pointwise

/-- one block of hidden columns' addition to the output block -/
theorem add_apply (v3 : Vec Ideal S512x1024 .bf16) (v4 : Vec Ideal S1x1024x1024 .bf16) (v9 : Vec Ideal S512x1024 .f32) (v13 : Vec Ideal S1x1024x1024 .bf16) (a : Fin 512) (b : Fin 1024) :
    k0_pay5 v3 v4 v9 v13 (ix2 a b) = v9 (ix2 a b) + ∑ k : Fin 1024,
      (max (∑ j : Fin 1024, v3 (ix2 a j) * v4 (ix3 0 j k)) 0 * max (∑ j : Fin 1024, v3 (ix2 a j) * v4 (ix3 0 j k)) 0) * v13 (ix3 0 k b) := by
  unfold_payloads
  pointwise [dot_S512x1024_S1024x1024_S512x1024_1_0_0_1_n_n]

/-- and the last normalization. -/
theorem last_apply (v21 v22 : Vec Ideal S512x1024 .f32) (v25 : Vec Ideal S1x1024 .f32) (a : Fin 512) (b : Fin 1024) :
    k0_pay6 v21 v22 v25 (ix2 a b) = Rows.norm (fun j => v21 (ix2 a j) + v22 (ix2 a j)) (fun j => v25 (ix2 0 j)) b := by
  unfold_payloads
  pointwise [Rows.norm, Rows.scale]

/-- A row `x` of the stream after the output projection of the row `o`, at column `l`. -/
def stream (x o : Fin 1024 → EReal) (wo : FVec Ideal S1024x1024 .bf16) (l : Fin 1024) : EReal :=
  x l + ∑ k : Fin 1024, o k * wo (ix2 k l)

/-- The squared rectified projection of that row, normalized, at hidden column `h`. -/
def hidden (x o : Fin 1024 → EReal) (wo : FVec Ideal S1024x1024 .bf16) (g : FVec Ideal S1024 .f32) (up : FVec Ideal S2x1024x4096 .bf16) (h : Fin 4096) : EReal :=
  max (Rows.proj (stream x o wo) (fun j => g (ix1 j)) (fun j => up (ix3 1 j h))) 0
    * max (Rows.proj (stream x o wo) (fun j => g (ix1 j)) (fun j => up (ix3 1 j h))) 0

/-- The feed-forward part's row, added to the stream, normalized and scaled by the last gains. -/
def row (x o : Fin 1024 → EReal) (wo : FVec Ideal S1024x1024 .bf16) (g : FVec Ideal S1024 .f32)
    (up : FVec Ideal S2x1024x4096 .bf16) (down : FVec Ideal S2x4096x1024 .bf16) (gf : FVec Ideal S1024 .f32) (l : Fin 1024) : EReal :=
  Rows.norm (fun l => stream x o wo l + ∑ h : Fin 4096, hidden x o wo g up h * down (ix3 1 h l)) (fun j => gf (ix1 j)) l

/-- Rows of zeros give zeros. -/
theorem row_zero (wo : FVec Ideal S1024x1024 .bf16) (g : FVec Ideal S1024 .f32)
    (up : FVec Ideal S2x1024x4096 .bf16) (down : FVec Ideal S2x4096x1024 .bf16) (gf : FVec Ideal S1024 .f32) (l : Fin 1024) :
    row (fun _ => 0) (fun _ => 0) wo g up down gf l = 0 := by
  have hs : stream (fun _ => 0) (fun _ => 0) wo = fun _ => 0 := by
    funext l
    simp [stream]
  have hh : ∀ h, hidden (fun _ => 0) (fun _ => 0) wo g up h = 0 := by
    intro h
    unfold hidden
    rw [hs, Rows.proj_zero, max_self, mul_zero]
  unfold row
  simp only [hs, hh, zero_mul, Finset.sum_const_zero, add_zero]
  simp only [Rows.norm, zero_mul]

/-- The array of the padded rows' results. -/
def result (x : FVec Ideal S32x4x1024 .f32) (o : FVec Ideal S32x4x1024 .bf16) (wo : FVec Ideal S1024x1024 .bf16) (g : FVec Ideal S1024 .f32)
    (up : FVec Ideal S2x1024x4096 .bf16) (down : FVec Ideal S2x4096x1024 .bf16) (gf : FVec Ideal S1024 .f32) : S512x1024.Idx → EReal := fun i =>
  row (Rows.stepRow x (i 0)) (Rows.stepRow o (i 0)) wo g up down gf (i 1)

/-- One point's addition to the output block, read from the arguments. -/
theorem add_block (c : Dev nD) (f : Fin 4) (acc : Vec Ideal S512x1024 .f32) (a : Fin 512) (b : Fin 1024) :
    k0_pay5 (k0_pay3 (iblk m c 0 (pt 0)) (iblk m c 1 (pt 0)) (iblk m c 2 (pt 0)) (iblk m c 3 (pt 0))) (iblk m c 4 (pt f)) acc (iblk m c 5 (pt f)) (ix2 a b)
      = acc (ix2 a b) + ∑ k : Fin 1024, hidden (Rows.stepRow (argX m c) a) (Rows.stepRow (argO m c) a) (argWo m c) (argG m c) (argUp m c) ⟨f.val * 1024 + k.val, by omega⟩
          * argDown m c (ix3 1 ⟨f.val * 1024 + k.val, by omega⟩ b) := by
  rw [add_apply]
  simp only [normed_apply, ib0, ib1, ib2, ib3, ib4, ib5]
  rfl

/-- The output array ends holding the result. -/
theorem final7 (c : Dev nD) : (dats m 0 c).arrAt 7 cfg0.N
    = result (argX m c) (argO m c) (argWo m c) (argG m c) (argUp m c) (argDown m c) (argF m c) := by
  refine (dats m 0 c).arrAt_eq_of_covers 7 _ (by decide +kernel) fun t hf y => ?_
  blk_simp
  rw [after0_7]
  obtain rfl : t = pt 3 := Fin.ext (by have := (flush0_7 t).mp hf; have := lt4 t; show t.val = 3; omega)
  rw [done]
  obtain ⟨a, b, rfl⟩ : ∃ (a : Fin 512) (b : Fin 1024), y = ix2 a b := ⟨y 0, y 1, eq_ix2 y⟩
  rw [show ((View.whole main_v6).slice (win0_7.rect (pt 3))).emb (ix2 a b) = ix2 a b by blk_ext [idx (pt 3)]]
  refine (last_apply _ _ _ a b).trans ?_
  simp only [List.foldl_cons, List.foldl_nil, add_block, zero_apply, stream_apply, ib0, ib1, ib2, ib6]
  unfold result row
  refine congrArg (fun z => Rows.norm z _ b) (funext fun l => ?_)
  refine congrArg₂ (· + ·) rfl ?_
  refine Eq.trans ?_ (Fin.sum_mul_add_fin 4 1024 (fun h : Fin 4096 => hidden (Rows.stepRow (argX m c) a) (Rows.stepRow (argO m c) a) (argWo m c) (argG m c) (argUp m c) h
          * argDown m c (ix3 1 h l)))
  rw [Fin.sum_univ_four, zero_add]

end Cert.MlpSIdeal.RefValue

namespace Cert.MlpSRefIdeal.RefValue

open Cert.MlpSRefIdeal Cert.MlpSRefIdeal.Gen

/-- The reference's normalization of an array's rows with gains `g`, -/
def norm (v : FVec Ideal S32x4x1024 .f32) (g : FVec Ideal S1024 .f32) : FVec Ideal S32x4x1024 .f32 :=
  mulf (mulf v (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf v v) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 g))

/-- row by row. -/
theorem norm_apply (v : FVec Ideal S32x4x1024 .f32) (g : FVec Ideal S1024 .f32) (b : Fin 32) (s : Fin 4) (l : Fin 1024) :
    norm v g (ix3 b s l) = Rows.norm (fun j => v (ix3 b s j)) (fun j => g (ix1 j)) l := by
  unfold norm
  pointwise [Rows.norm, Rows.scale]

/-- The reference's stream after the attention's output projection, -/
def stream (x : FVec Ideal S32x4x1024 .f32) (o : FVec Ideal S32x4x1024 .bf16) (wo : FVec Ideal S1024x1024 .bf16) : FVec Ideal S32x4x1024 .f32 :=
  addf x (Host.dotGeneral dot_S32x4x1024_S1024x1024_S32x4x1024_2_0_01_1_n_n none (extf .f32 o bitsLt_bf16_f32) (extf .f32 wo bitsLt_bf16_f32))

/-- entry by entry. -/
theorem stream_apply (x : FVec Ideal S32x4x1024 .f32) (o : FVec Ideal S32x4x1024 .bf16) (wo : FVec Ideal S1024x1024 .bf16) (b : Fin 32) (s : Fin 4) (l : Fin 1024) :
    stream x o wo (ix3 b s l) = MlpSIdeal.RefValue.stream (fun k => x (ix3 b s k)) (fun k => o (ix3 b s k)) wo l := by
  unfold stream
  pointwise [dot_S32x4x1024_S1024x1024_S32x4x1024_2_0_01_1_n_n, MlpSIdeal.RefValue.stream]

/-- The reference's rectified projection, -/
def rect (x : FVec Ideal S32x4x1024 .f32) (o : FVec Ideal S32x4x1024 .bf16) (wo : FVec Ideal S1024x1024 .bf16) (g : FVec Ideal S1024 .f32) (up : FVec Ideal S2x1024x4096 .bf16) : FVec Ideal S32x4x4096 .f32 :=
  maximumf (Host.dotGeneral dot_S32x4x1024_S1024x4096_S32x4x4096_2_0_01_1_n_n none (norm (stream x o wo) g) (extf .f32 (shapeCast _ (extractStridedSlice S1x1024x4096 ![1, 0, 0] up slices_S2x1024x4096_S1x1024x4096_1_0_0) shapeCasts_S1x1024x4096_S1024x4096) bitsLt_bf16_f32)) (broadcastInDim S32x4x4096 ![] bcast_S_S32x4x4096 (constant S_ .f32 0x00000000#32))

/-- entry by entry. -/
theorem rect_apply (x : FVec Ideal S32x4x1024 .f32) (o : FVec Ideal S32x4x1024 .bf16) (wo : FVec Ideal S1024x1024 .bf16) (g : FVec Ideal S1024 .f32) (up : FVec Ideal S2x1024x4096 .bf16) (b : Fin 32) (s : Fin 4) (h : Fin 4096) :
    rect x o wo g up (ix3 b s h) = max (Rows.proj (MlpSIdeal.RefValue.stream (fun k => x (ix3 b s k)) (fun k => o (ix3 b s k)) wo) (fun j => g (ix1 j)) (fun j => up (ix3 1 j h))) 0 := by
  unfold rect
  pointwise [dot_S32x4x1024_S1024x4096_S32x4x4096_2_0_01_1_n_n, norm_apply, stream_apply, Rows.proj]

/-- The reference's stream after the feed-forward part, -/
def out (x : FVec Ideal S32x4x1024 .f32) (o : FVec Ideal S32x4x1024 .bf16) (wo : FVec Ideal S1024x1024 .bf16) (g : FVec Ideal S1024 .f32) (up : FVec Ideal S2x1024x4096 .bf16) (down : FVec Ideal S2x4096x1024 .bf16) : FVec Ideal S32x4x1024 .f32 :=
  addf (stream x o wo) (Host.dotGeneral dot_S32x4x4096_S4096x1024_S32x4x1024_2_0_01_1_n_n none (mulf (rect x o wo g up) (rect x o wo g up)) (extf .f32 (shapeCast _ (extractStridedSlice S1x4096x1024 ![1, 0, 0] down slices_S2x4096x1024_S1x4096x1024_1_0_0) shapeCasts_S1x4096x1024_S4096x1024) bitsLt_bf16_f32))

/-- entry by entry. -/
theorem out_apply (x : FVec Ideal S32x4x1024 .f32) (o : FVec Ideal S32x4x1024 .bf16) (wo : FVec Ideal S1024x1024 .bf16) (g : FVec Ideal S1024 .f32) (up : FVec Ideal S2x1024x4096 .bf16) (down : FVec Ideal S2x4096x1024 .bf16) (b : Fin 32) (s : Fin 4) (l : Fin 1024) :
    out x o wo g up down (ix3 b s l) = MlpSIdeal.RefValue.stream (fun k => x (ix3 b s k)) (fun k => o (ix3 b s k)) wo l + ∑ h : Fin 4096, MlpSIdeal.RefValue.hidden (fun k => x (ix3 b s k)) (fun k => o (ix3 b s k)) wo g up h * down (ix3 1 h l) := by
  unfold out
  pointwise [dot_S32x4x4096_S4096x1024_S32x4x1024_2_0_01_1_n_n, stream_apply, rect_apply, MlpSIdeal.RefValue.hidden]

/-- The tokens' results, padded to sixteen rows a sequence, -/
def padded (x : FVec Ideal S32x4x1024 .f32) (o : FVec Ideal S32x4x1024 .bf16) (wo : FVec Ideal S1024x1024 .bf16) (g : FVec Ideal S1024 .f32) (up : FVec Ideal S2x1024x4096 .bf16) (down : FVec Ideal S2x4096x1024 .bf16) (gf : FVec Ideal S1024 .f32) : FVec Ideal S512x1024 .f32 :=
  shapeCast _ (pad S32x16x1024 ![0, 0, 0] ![0, 12, 0] ![0, 0, 0] (norm (out x o wo g up down) gf) (sitofp .f32 (constantI S_ 32 0#32)) pads_S32x4x1024_S32x16x1024_000_0120_000 h_S_) shapeCasts_S32x16x1024_S512x1024

/-- are the kernel's. -/
theorem result_eq (x : FVec Ideal S32x4x1024 .f32) (o : FVec Ideal S32x4x1024 .bf16) (wo : FVec Ideal S1024x1024 .bf16) (g : FVec Ideal S1024 .f32) (up : FVec Ideal S2x1024x4096 .bf16) (down : FVec Ideal S2x4096x1024 .bf16) (gf : FVec Ideal S1024 .f32) :
    padded x o wo g up down gf = MlpSIdeal.RefValue.result x o wo g up down gf := by
  funext i
  obtain ⟨r, l, rfl⟩ : ∃ (r : Fin 512) (l : Fin 1024), i = ix2 r l := ⟨i 0, i 1, eq_ix2 i⟩
  unfold padded MlpSIdeal.RefValue.result
  by_cases hr : r.val % 16 < 4
  · have ex : Rows.stepRow x r = fun k => x (ix3 ⟨r.val / 16, by omega⟩ ⟨r.val % 16, hr⟩ k) := funext fun k => dif_pos hr
    have eo : Rows.stepRow o r = fun k => o (ix3 ⟨r.val / 16, by omega⟩ ⟨r.val % 16, hr⟩ k) := funext fun k => dif_pos hr
    show _ = MlpSIdeal.RefValue.row (Rows.stepRow x r) (Rows.stepRow o r) wo g up down gf l
    rw [ex, eo]
    pointwise [norm_apply, out_apply, hr]
    exact dif_pos (by omega)
  · have ex : Rows.stepRow x r = fun _ => 0 := funext fun k => dif_neg hr
    have eo : Rows.stepRow o r = fun _ => 0 := funext fun k => dif_neg hr
    show _ = MlpSIdeal.RefValue.row (Rows.stepRow x r) (Rows.stepRow o r) wo g up down gf l
    rw [ex, eo, MlpSIdeal.RefValue.row_zero, ← Rows.zero_int]
    pointwise [hr]
    exact dif_neg fun q => q.2

end Cert.MlpSRefIdeal.RefValue

namespace Cert.Proof.MlpSClaims

/-- The frames: the kernel's two programs leave their arguments as launched, by their generated runs, -/
theorem frame_p : Cert.quiescent_MlpS := fun m ρ _ => Cert.MlpS.Gen.frame m ρ
theorem frame_pi : Cert.quiescent_MlpSIdeal := fun m ρ _ => Cert.MlpSIdeal.Gen.frame m ρ
/-- and so does the reference. -/
theorem frame_ri : Cert.quiescent_MlpSRefIdeal := fun m ρ _ =>
  (θ_run Cert.MlpSRefIdeal.defs _ _).mono (fun r h => ⟨fun c => (h c).2,
      Idealize.ShloMosaic.sem_eq_zero_of_no_sems (by decide) r.2⟩)
    (Cert.MlpSRefIdeal.Value.run (F := Ideal) m ρ)

/-- No operation was rewritten. -/
theorem preserves : Cert.preserves_MlpS_MlpSIdeal := trivial

/-- On the extended reals the kernel's result is the reference's. -/
theorem algebraic : Cert.algebraic_MlpSIdeal_MlpSRefIdeal := by
  intro m ρ m' ρ' _ hagree
  refine ⟨fun c => MlpSIdeal.RefValue.result (MlpSIdeal.RefValue.argX m c) (MlpSIdeal.RefValue.argO m c) (MlpSIdeal.RefValue.argWo m c) (MlpSIdeal.RefValue.argG m c)
    (MlpSIdeal.RefValue.argUp m c) (MlpSIdeal.RefValue.argDown m c) (MlpSIdeal.RefValue.argF m c), ?_, ?_⟩
  · exact (θ_run Cert.MlpSIdeal.defs _ _).mono (fun _ h c => ⟨(h c).1.trans (MlpSIdeal.RefValue.final7 m c), (h c).2⟩)
      (Cert.MlpSIdeal.Value.run_blocks (F := Ideal) m ρ)
  have e : ∀ c, MlpSIdeal.RefValue.argX m c = m' ((c.tc : Thread Cert.MlpSRefIdeal.nD Cert.MlpSRefIdeal.τ).loc Cert.MlpSRefIdeal.main_arg0)
      ∧ MlpSIdeal.RefValue.argO m c = m' ((c.tc : Thread Cert.MlpSRefIdeal.nD Cert.MlpSRefIdeal.τ).loc Cert.MlpSRefIdeal.main_arg1)
      ∧ MlpSIdeal.RefValue.argWo m c = m' ((c.tc : Thread Cert.MlpSRefIdeal.nD Cert.MlpSRefIdeal.τ).loc Cert.MlpSRefIdeal.main_arg2)
      ∧ MlpSIdeal.RefValue.argG m c = m' ((c.tc : Thread Cert.MlpSRefIdeal.nD Cert.MlpSRefIdeal.τ).loc Cert.MlpSRefIdeal.main_arg3)
      ∧ MlpSIdeal.RefValue.argUp m c = m' ((c.tc : Thread Cert.MlpSRefIdeal.nD Cert.MlpSRefIdeal.τ).loc Cert.MlpSRefIdeal.main_arg4)
      ∧ MlpSIdeal.RefValue.argDown m c = m' ((c.tc : Thread Cert.MlpSRefIdeal.nD Cert.MlpSRefIdeal.τ).loc Cert.MlpSRefIdeal.main_arg5)
      ∧ MlpSIdeal.RefValue.argF m c = m' ((c.tc : Thread Cert.MlpSRefIdeal.nD Cert.MlpSRefIdeal.τ).loc Cert.MlpSRefIdeal.main_arg6) := fun c =>
    ⟨(hagree c).1.symm, (hagree c).2.1.symm, (hagree c).2.2.1.symm, (hagree c).2.2.2.1.symm, (hagree c).2.2.2.2.1.symm, (hagree c).2.2.2.2.2.1.symm, (hagree c).2.2.2.2.2.2.symm⟩
  simp only [e]
  exact (θ_run Cert.MlpSRefIdeal.defs _ _).mono (fun _ h c => ⟨(h c).1.trans (MlpSRefIdeal.RefValue.result_eq _ _ _ _ _ _ _), (h c).2⟩)
    (Cert.MlpSRefIdeal.Value.run (F := Ideal) m' ρ')

end Cert.Proof.MlpSClaims

end
-- ==== Proof.GlaPRows.lean ====
/-
  The recurrence over chunks of 64 steps, one head of one sequence at a time: running sums of a chunk's logarithms of gates, what
  a chunk makes of the state, and the state after a number of chunks.
-/
module

public import proofs.«01_k».proof.Proof.GlaRows

@[expose] public section

noncomputable section

open Idealize.ShloMosaic

namespace Cert.Proof.GlaPRows

/-- The sum of the first terms of `x`, through term `r`. -/
def cum (x : Fin 64 → EReal) (r : Fin 64) : EReal := ∑ s : Fin 64, if s.val ≤ r.val then x s else 0

/-- The sum of all terms. -/
def total (x : Fin 64 → EReal) : EReal := cum x 63

/-- What a chunk with keys `k`, values `v` and logarithms of gates `f` makes of the state `s`. -/
def chunk (k v f : Fin 64 → Fin 128 → EReal) (s : Fin 128 → Fin 128 → EReal) (j l : Fin 128) : EReal :=
  Ideal.exp (total fun r => f r j) * s j l + ∑ r : Fin 64, k r j * Ideal.exp (total (fun r => f r j) - cum (fun r => f r j) r) * v r l

/-- The state after the first chunks. -/
def after (k v f : ℕ → Fin 64 → Fin 128 → EReal) (s : Fin 128 → Fin 128 → EReal) : ℕ → Fin 128 → Fin 128 → EReal
  | 0 => s
  | n + 1 => chunk (k n) (v n) (f n) (after k v f s n)

/-- Row `r` of head `h` in the `n`-th chunk of sequence `b`. -/
def chunkRow (x : FVec Ideal ⟨2, ![16384, 1024]⟩ .f32) (b : Fin 2) (h : Fin 8) (n : ℕ) (r : Fin 64) (j : Fin 128) : EReal :=
  x (ix2 ⟨b.val * 8192 + n % 128 * 64 + r.val, by omega⟩ ⟨128 * h.val + j.val, by omega⟩)

/-- The state of every head after the first `n` chunks of its sequence. -/
def stateAfter (k v f : FVec Ideal ⟨2, ![16384, 1024]⟩ .f32) (s : FVec Ideal ⟨4, ![2, 8, 128, 128]⟩ .f32) (b : Fin 2) (h : Fin 8) (n : ℕ) : Fin 128 → Fin 128 → EReal :=
  after (chunkRow k b h) (chunkRow v b h) (chunkRow f b h) (fun j l => s (ix4 b h j l)) n

/-- The states after all chunks. -/
def final (k v f : FVec Ideal ⟨2, ![16384, 1024]⟩ .f32) (s : FVec Ideal ⟨4, ![2, 8, 128, 128]⟩ .f32) : FVec Ideal ⟨4, ![2, 8, 128, 128]⟩ .f32 :=
  fun i => stateAfter k v f s (i 0) (i 1) 128 (i 2) (i 3)

/-- Adding up a list from zero is its sum. -/
theorem foldl_add (n : ℕ) (g : Fin n → EReal) (g' : EReal → Fin n → EReal) (h : ∀ a i, g' a i = a + g i) :
    (List.finRange n).foldl g' 0 = ∑ i : Fin n, g i := by
  rw [Fin.sum_univ_def, List.sum_eq_foldl, List.foldl_map]
  congr 1
  funext a i
  exact h a i

/-- A window of 64 that ends at term `r`, terms before the first counted as zero, holds the running sum. -/
theorem window_sum (x : Fin 64 → EReal) (r : Fin 64) :
    (∑ n : Fin 64, if h : 63 ≤ r.val + n.val then x ⟨r.val + n.val - 63, by omega⟩ else 0) = cum x r := by
  rw [cum, ← Equiv.sum_comp (Equiv.addRight (r + 1)) (fun s : Fin 64 => if s.val ≤ r.val then x s else 0)]
  refine Finset.sum_congr rfl fun n _ => ?_
  have e : ((Equiv.addRight (r + 1)) n).val = (n.val + (r.val + 1)) % 64 := by
    simp [Fin.val_add, add_assoc]
  have hr := r.isLt
  have hn := n.isLt
  by_cases h : 63 ≤ r.val + n.val
  · have e' : (Equiv.addRight (r + 1)) n = ⟨r.val + n.val - 63, by omega⟩ := Fin.ext (by rw [e]; simp only []; omega)
    rw [dif_pos h, if_pos (by rw [e]; omega), e']
  · rw [dif_neg h, if_neg (by rw [e]; omega)]

/-- The position a window of 64 steps reads. -/
theorem win64 : ∀ n : Fin (⟨4, ![1, 1, 64, 1]⟩ : Shape).numel, (((⟨4, ![1, 1, 64, 1]⟩ : Shape).rowMajor.symm n) 0).val = 0 ∧ (((⟨4, ![1, 1, 64, 1]⟩ : Shape).rowMajor.symm n) 1).val = 0
    ∧ (((⟨4, ![1, 1, 64, 1]⟩ : Shape).rowMajor.symm n) 2).val = n.val ∧ (((⟨4, ![1, 1, 64, 1]⟩ : Shape).rowMajor.symm n) 3).val = 0 := by
  decide +kernel

/-- The running sum along 64 steps, as a window sum padded 63 low. -/
theorem running64 (x : FVec Ideal ⟨4, ![2, 8, 64, 128]⟩ .f32) (init : FVec Ideal ⟨0, ![]⟩ .f32)
    (h : (⟨4, ![2, 8, 64, 128]⟩ : Shape).ReduceWindows ![1, 1, 64, 1] ![1, 1, 1, 1] ![0, 0, 63, 0] ![0, 0, 0, 0] ⟨4, ![2, 8, 64, 128]⟩) (hu : 0 < (⟨0, ![]⟩ : Shape).numel)
    (h0 : init (Shape.Idx.first hu) = (0 : EReal)) (i : Fin 2) (e : Fin 8) (r : Fin 64) (l : Fin 128) :
    Host.reduceWindowAdd ![1, 1, 64, 1] ![1, 1, 1, 1] ![0, 0, 63, 0] ![0, 0, 0, 0] x init h hu (ix4 i e r l) = cum (fun s => x (ix4 i e s l)) r := by
  have hN : (⟨4, ![1, 1, 64, 1]⟩ : Shape).numel = 64 := by decide +kernel
  have w0 := fun n => (win64 n).1
  have w1 := fun n => (win64 n).2.1
  have w2 := fun n => (win64 n).2.2.1
  have w3 := fun n => (win64 n).2.2.2
  show Host.reduceWindow (α := EReal) (· + ·) ![1, 1, 64, 1] ![1, 1, 1, 1] ![0, 0, 63, 0] ![0, 0, 0, 0] x (fun _ : (⟨0, ![]⟩ : Shape).Idx => init (Shape.Idx.first hu)) h hu (ix4 i e r l) = _
  rw [h0]
  unfold Host.reduceWindow
  dsimp only
  refine (foldl_add _ (fun n => if q : 63 ≤ r.val + n.val then x (ix4 i e ⟨r.val + n.val - 63, by have := lt_of_lt_of_eq n.isLt hN; omega⟩ l) else 0) _ fun a n => ?_).trans ?_
  · refine congrArg (fun b : EReal => a + b) ?_
    have hn : n.val < 64 := lt_of_lt_of_eq n.isLt hN
    by_cases q : 63 ≤ r.val + n.val
    · rw [dif_pos q, dif_pos (by intro a; fin_cases a <;> simp [w0, w1, w2, w3] <;> omega)]
      refine congrArg x (funext fun a => Fin.ext ?_)
      fin_cases a <;> simp [w0, w1, w2, w3]
    · rw [dif_neg q, dif_neg (by intro p; have := (p 2).1; simp [w2] at this; omega)]
  · rw [← window_sum]
    exact Fintype.sum_equiv (finCongr hN) _ _ fun n => rfl

end Cert.Proof.GlaPRows

end
-- ==== Proof.GlaPHead.lean ====
/-
  What the kernel's body computes of one head's state in one chunk, entry by entry.
-/
module

public import proofs.«01_k».proof.Proof.GlaPRows
public import proofs.«01_k».proof.Proof.Gen.GlaPIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GlaPIdeal.RefValue

open Cert.GlaPIdeal Cert.GlaPIdeal.Gen Cert.Proof

/-- Which of 64 steps comes no later than which. -/
theorem later_mask : ∀ r s : Fin 64, IntOp.cmpi CmpIPredicate.sge (BitVec.ofNat 32 r.val) (BitVec.ofNat 32 s.val) = if s.val ≤ r.val then 1#1 else 0#1 := by
  decide +kernel

/-- The running logarithms of the forget gates in base two. -/
theorem logs_apply (lf : Vec Ideal S64x1024 .f32) (r : Fin 64) (l : Fin 1024) :
    k0_pay18 lf (ix2 r l) = GlaPRows.cum (fun s => lf (ix2 s l)) r * (((Real.log 2)⁻¹ : ℝ) : EReal) := by
  unfold k0_pay18
  pointwise [dot_S64x64_S64x1024_S64x1024_1_0_0_1_n_n]
  rw [IdealRules.named_const.ideal_named_scalar κ "log2e" _ (((Real.log 2)⁻¹ : ℝ) : EReal) rfl]
  refine congrArg (fun a : EReal => a * (((Real.log 2)⁻¹ : ℝ) : EReal)) (Finset.sum_congr rfl fun s _ => ?_)
  rw [later_mask]
  by_cases h : s.val ≤ r.val
  · simp only [if_pos h]; rfl
  · simp only [if_neg h]; rfl

/-- One head's starting state, transposed, as the body keeps it. -/
theorem start_apply (s : Vec Ideal S1x1x128x128 .f32) (l j : Fin 128) : k0_pay6 s (ix3 0 l j) = s (ix4 0 0 j l) := by
  unfold k0_pay6
  pointwise

/-- A kept state, transposed back. -/
theorem back_apply (s : Vec Ideal S1x128x128 .f32) (j l : Fin 128) : k0_pay10 s (ix4 0 0 j l) = s (ix3 0 l j) := by
  unfold k0_pay10
  pointwise

/-- One head's kept state after a chunk. -/
theorem next_apply (b k : FVec Ideal S64x128 .f32) (st : Vec Ideal S1x128x128 .f32) (v : FVec Ideal S64x128 .f32) (l j : Fin 128) :
    k0_pay226 b k st v (ix3 0 l j) = st (ix3 0 l j) * Ideal.exp2 (b (ix2 63 j)) + ∑ s : Fin 64, v (ix2 s l) * (k (ix2 s j) * Ideal.exp2 (b (ix2 63 j) - b (ix2 s j))) := by
  unfold k0_pay226
  pointwise [dot_S64x128_S64x128_S128x128_0_0_1_1_n_n]
  rfl

/-- A head's columns of a chunk's rows. -/
def cols (x : Vec Ideal S64x1024 .f32) (h : Fin 8) (r : Fin 64) (j : Fin 128) : EReal := x (ix2 r ⟨128 * h.val + j.val, by omega⟩)

/-- What a chunk's rows make of the kept states, transposed as they are kept. -/
def next (k v f : Vec Ideal S64x1024 .f32) (st : Vec Ideal S8x128x128 .f32) : Vec Ideal S8x128x128 .f32 :=
  fun y => GlaPRows.chunk (cols k (y 0)) (cols v (y 0)) (cols f (y 0)) (fun j l => st (ix3 (y 0) l j)) (y 2) (y 1)

/-- One head's slice of the running logarithms. -/
theorem logs_slice (f : Vec Ideal S64x1024 .f32) (n o : Nat) (hn : n < 8) (ho : o = 128 * n) (hs : S64x1024.Slices ![0, o] S64x128) (r : Fin 64) (j : Fin 128) :
    extractStridedSlice S64x128 ![0, o] (k0_pay18 f) hs (ix2 r j) = GlaPRows.cum (fun s => cols f ⟨n, hn⟩ s j) r * (((Real.log 2)⁻¹ : ℝ) : EReal) := by
  subst ho
  pointwise [logs_apply, cols]

/-- One head's columns, loaded. -/
theorem ld_cols (x : Vec Ideal S64x1024 .f32) (n o : Nat) (hn : n < 8) (ho : o = 128 * n) (i1) (r : Fin 64) (j : Fin 128) :
    View.ld x (Rect.unit (s := S64x1024) ![0, o] S64x128.size i1) (ix2 r j) = cols x ⟨n, hn⟩ r j := by
  subst ho
  exact View.ld_unit_apply_of _ _ _ i1 (ix2 r j) (ix2 r ⟨128 * n + j.val, by omega⟩) (fun a => by fin_cases a <;> simp)

/-- One head's kept state, loaded. -/
theorem ld_state (x : Vec Ideal S8x128x128 .f32) (n : Nat) (hn : n < 8) (i1) (l j : Fin 128) :
    View.ld x (Rect.unit (s := S8x128x128) ![n, 0, 0] S1x128x128.size i1) (ix3 0 l j) = x (ix3 ⟨n, hn⟩ l j) :=
  View.ld_unit_apply_of _ _ _ i1 (ix3 0 l j) (ix3 ⟨n, hn⟩ l j) (fun a => by fin_cases a <;> simp)

/-- One head's starting state, loaded. -/
theorem ld_start (x : Vec Ideal S1x8x128x128 .f32) (n : Nat) (hn : n < 8) (i1) (l j : Fin 128) :
    k0_pay6 (View.ld x (Rect.unit (s := S1x8x128x128) ![0, n, 0, 0] S1x1x128x128.size i1)) (ix3 0 l j) = x (ix4 0 ⟨n, hn⟩ j l) := by
  rw [start_apply]
  exact View.ld_unit_apply_of _ _ _ i1 (ix4 0 0 j l) (ix4 0 ⟨n, hn⟩ j l) (fun a => by fin_cases a <;> simp)

/-- One head's stored state is what the chunk makes of the states `X`, if the head started from its part of `X`. -/
theorem next_piece (k v f : Vec Ideal S64x1024 .f32) (X : Vec Ideal S8x128x128 .f32) (st : Vec Ideal S1x128x128 .f32) (n o : Nat) (hn : n < 8) (ho : o = 128 * n) (i1)
    (hs : S64x1024.Slices ![0, o] S64x128) (hst : ∀ l j, st (ix3 0 l j) = X (ix3 ⟨n, hn⟩ l j)) (l j : Fin 128) :
    k0_pay226 (extractStridedSlice S64x128 ![0, o] (k0_pay18 f) hs) (View.ld k (Rect.unit (s := S64x1024) ![0, o] S64x128.size i1)) st
        (View.ld v (Rect.unit (s := S64x1024) ![0, o] S64x128.size i1)) (ix3 0 l j)
      = next k v f X (ix3 ⟨n, hn⟩ l j) := by
  rw [next_apply, hst]
  simp only [logs_slice f n o hn ho, ld_cols k n o hn ho, ld_cols v n o hn ho, Rows.sub_mul_coe, Rows.exp2_mul]
  show _ = Ideal.exp _ * _ + _
  rw [mul_comm]
  refine congrArg (fun a : EReal => Ideal.exp _ * _ + a) (Finset.sum_congr rfl fun s _ => ?_)
  rw [mul_comm]
  rfl

end Cert.GlaPIdeal.RefValue

end
-- ==== Proof.GlaPValue.lean ====
/-
  The recurrence over the chunks of a prompt: two sequences of 128 chunks of 64 steps each. At each point the kernel makes of its kept
  states what the chunk makes of them; it takes them up from the argument at a sequence's first chunk and writes them
  out at its last.
-/
module

public import proofs.«01_k».proof.Proof.GlaPHead
public import proofs.«01_k».proof.Proof.Gen.GlaPIdeal.Value
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem

namespace Cert.GlaPIdeal.RefValue

open Cert.GlaPIdeal Cert.GlaPIdeal.Gen Cert.Proof
open Idealize.ShloMosaic.Pipeline (Dat)

variable (m : (ℓ : Loc nD τ sig) → Buf (Elt Ideal) ℓ) (ρ : Dev nD → PrngReg)

/-- Where each window's block lies at point `t`. -/
theorem idx : ∀ t : Fin cfg0.N, win0_1.index t = ![t.val, 0] ∧ win0_2.index t = ![t.val, 0] ∧ win0_3.index t = ![t.val, 0]
    ∧ win0_6.index t = ![t.val / 128, 0, 0, 0] ∧ win0_8.index t = ![t.val / 128, 0, 0, 0] :=
  (by decide +kernel : ∀ t : Fin grid0.N, _)

/-- Device `c`'s arguments that the states depend on. -/
abbrev argK (c : Dev nD) : FVec Ideal S16384x1024 .f32 := m ((c : Thread nD τ).loc main_arg1)
abbrev argV (c : Dev nD) : FVec Ideal S16384x1024 .f32 := m ((c : Thread nD τ).loc main_arg2)
abbrev argF (c : Dev nD) : FVec Ideal S16384x1024 .f32 := m ((c : Thread nD τ).loc main_arg3)
abbrev argS (c : Dev nD) : FVec Ideal S2x8x128x128 .f32 := m ((c : Thread nD τ).loc main_arg6)

theorem lt256 (t : Fin cfg0.N) : t.val < 256 := N_0 ▸ t.isLt

/-- The sequence of point `t`. -/
def seqOf (t : Fin cfg0.N) : Fin 2 := ⟨t.val / 128, by have := lt256 t; omega⟩

/-- The input blocks, entry by entry. -/
theorem ib1 (c : Dev nD) (t : Fin cfg0.N) (h : Fin 8) : cols (iblk m c 1 t) h = GlaPRows.chunkRow (argK m c) (seqOf t) h (t.val % 128) := by
  have := lt256 t
  funext r j
  unfold cols iblk argK seqOf
  entry_read
  blk_simp [idx t]
  pointwise
  blk_ext [idx t]
theorem ib2 (c : Dev nD) (t : Fin cfg0.N) (h : Fin 8) : cols (iblk m c 2 t) h = GlaPRows.chunkRow (argV m c) (seqOf t) h (t.val % 128) := by
  have := lt256 t
  funext r j
  unfold cols iblk argV seqOf
  entry_read
  blk_simp [idx t]
  pointwise
  blk_ext [idx t]
theorem ib3 (c : Dev nD) (t : Fin cfg0.N) (h : Fin 8) : cols (iblk m c 3 t) h = GlaPRows.chunkRow (argF m c) (seqOf t) h (t.val % 128) := by
  have := lt256 t
  funext r j
  unfold cols iblk argF seqOf
  entry_read
  blk_simp [idx t]
  pointwise
  blk_ext [idx t]
theorem ib6 (c : Dev nD) (t : Fin cfg0.N) (h : Fin 8) (j l : Fin 128) : iblk m c 6 t (ix4 0 h j l) = argS m c (ix4 (seqOf t) h j l) := by
  unfold iblk argS seqOf
  entry_read
  blk_simp [idx t]
  pointwise
  blk_ext [idx t]

/-- The kept states at a sequence's start: the argument's, transposed. -/
def start (c : Dev nD) (t : Fin cfg0.N) : Vec Ideal S8x128x128 .f32 := fun y => iblk m c 6 t (ix4 0 (y 0) (y 2) (y 1))

/-- What a chunk makes of the kept states. -/
abbrev nextAt (c : Dev nD) (t : Fin cfg0.N) (X : Vec Ideal S8x128x128 .f32) : Vec Ideal S8x128x128 .f32 := next (iblk m c 1 t) (iblk m c 2 t) (iblk m c 3 t) X

/-- One head's stored state. -/
theorem kept_piece (k v f : Vec Ideal S64x1024 .f32) (X : Vec Ideal S8x128x128 .f32) (st : Vec Ideal S1x128x128 .f32) (n o : Nat) (hn : n < 8) (ho : o = 128 * n) (i1)
    (hs : S64x1024.Slices ![0, o] S64x128) (hst : ∀ l j, st (ix3 0 l j) = X (ix3 ⟨n, hn⟩ l j))
    (y : S8x128x128.Idx) (x : S1x128x128.Idx) (h0 : (y 0).val = n) (h1 : (y 1).val = (x 1).val) (h2 : (y 2).val = (x 2).val) :
    k0_pay226 (extractStridedSlice S64x128 ![0, o] (k0_pay18 f) hs) (View.ld k (Rect.unit (s := S64x1024) ![0, o] S64x128.size i1)) st
        (View.ld v (Rect.unit (s := S64x1024) ![0, o] S64x128.size i1)) x
      = next k v f X y := by
  obtain ⟨l, j, rfl⟩ : ∃ l j : Fin 128, x = ix3 0 l j := ⟨x 1, x 2, (eq_ix3 x).trans (by congr 1; exact Subsingleton.elim (α := Fin 1) _ _)⟩
  rw [next_piece k v f X st n o hn ho i1 hs hst l j]
  refine congrArg (next k v f X) (funext fun a => Fin.ext ?_)
  fin_cases a
  · exact h0.symm
  · exact h1.symm
  · exact h2.symm

/-- Stores before those that cover a place leave no trace there. -/
theorem canon_later {S : Shape} {e : EltTy} (L' : List (View.Piece (Elt Ideal) S e)) :
    ∀ (L : List (View.Piece (Elt Ideal) S e)) (y : S.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_later L' L y ?_
      obtain ⟨q, hq, hyq⟩ := hy
      rcases List.mem_cons.mp hq with rfl | hq'
      · exact absurd hyq hm
      · exact ⟨q, hq', hyq⟩

/-- Eight stores that cover a place, after any others. -/
theorem canon_eight {S : Shape} {e : EltTy} (p0 p1 p2 p3 p4 p5 p6 p7 : View.Piece (Elt Ideal) S e) (L' : List (View.Piece (Elt Ideal) S e)) (y : S.Idx) (v : Elt Ideal e)
    (hc : ∃ p ∈ [p0, p1, p2, p3, p4, p5, p6, p7], y ∈ p.1.set) (h : View.canon [p0, p1, p2, p3, p4, p5, p6, p7] y = v) :
    View.canon (p0 :: p1 :: p2 :: p3 :: p4 :: p5 :: p6 :: p7 :: L') y = v :=
  (canon_later L' [p0, p1, p2, p3, p4, p5, p6, p7] y hc).trans h

/-- The first point of a sequence. -/
theorem first (c : Dev nD) (t : Fin cfg0.N) (h0 : t.val % 128 = 0) : (outsAt0 m c t.val t.isLt).2.2 = nextAt m c t (start m c t) := by
  rw [outsAt0_A m c t h0 (by omega)]
  dsimp only
  unfold sout0_A_0
  frame_out
  simp (disch := decide) only [↓View.readCov_skip, ↓View.readCov_cons_toLoadRect]
  funext y
  refine canon_eight _ _ _ _ _ _ _ _ _ y _ (View.cover_of_tiled_head _ _ _ (by rfl) y) ?_
  canon_tiles x h
  case piece0 => exact kept_piece _ _ _ (start m c t) _ 7 896 (by decide) rfl _ slices_S64x1024_o0_896_S64x128 (fun l j => ld_start _ 7 (by decide) _ l j) y x (by omega) h1 h2
  case piece1 => exact kept_piece _ _ _ (start m c t) _ 6 768 (by decide) rfl _ slices_S64x1024_o0_768_S64x128 (fun l j => ld_start _ 6 (by decide) _ l j) y x (by omega) h1 h2
  case piece2 => exact kept_piece _ _ _ (start m c t) _ 5 640 (by decide) rfl _ slices_S64x1024_o0_640_S64x128 (fun l j => ld_start _ 5 (by decide) _ l j) y x (by omega) h1 h2
  case piece3 => exact kept_piece _ _ _ (start m c t) _ 4 512 (by decide) rfl _ slices_S64x1024_o0_512_S64x128 (fun l j => ld_start _ 4 (by decide) _ l j) y x (by omega) h1 h2
  case piece4 => exact kept_piece _ _ _ (start m c t) _ 3 384 (by decide) rfl _ slices_S64x1024_o0_384_S64x128 (fun l j => ld_start _ 3 (by decide) _ l j) y x (by omega) h1 h2
  case piece5 => exact kept_piece _ _ _ (start m c t) _ 2 256 (by decide) rfl _ slices_S64x1024_o0_256_S64x128 (fun l j => ld_start _ 2 (by decide) _ l j) y x (by omega) h1 h2
  case piece6 => exact kept_piece _ _ _ (start m c t) _ 1 128 (by decide) rfl _ slices_S64x1024_o0_128_S64x128 (fun l j => ld_start _ 1 (by decide) _ l j) y x (by omega) h1 h2
  case piece7 => exact kept_piece _ _ _ (start m c t) _ 0 0 (by decide) rfl _ slices_S64x1024_o0_0_S64x128 (fun l j => ld_start _ 0 (by decide) _ l j) y x (by omega) h1 h2

/-- The contents after the point before `t`, spelled by that point's own number. -/
theorem prev_point (c : Dev nD) (t s : Fin cfg0.N) (e : t.val = s.val + 1) (h : t.val - 1 < cfg0.N) :
    outsAt0 m c (t.val - 1) h = outsAt0 m c s.val s.isLt := by
  have p : t.val - 1 = s.val := by omega
  generalize t.val - 1 = n at h p
  subst p
  rfl

/-- A middle point of a sequence. -/
theorem mid (c : Dev nD) (t s : Fin cfg0.N) (e : t.val = s.val + 1) (h0 : ¬ t.val % 128 = 0) (h1 : ¬ t.val % 128 = 127) :
    (outsAt0 m c t.val t.isLt).2.2 = nextAt m c t (outsAt0 m c s.val s.isLt).2.2 := by
  rw [outsAt0_B m c t h0 h1]
  simp only [prev_point m c t s e]
  unfold sout0_B_0
  frame_out
  simp only [read_unread_whole]
  funext y
  canon_tiles x h
  case piece0 => exact kept_piece _ _ _ _ _ 7 896 (by decide) rfl _ slices_S64x1024_o0_896_S64x128 (fun l j => ld_state _ 7 (by decide) _ l j) y x (by omega) h1 h2
  case piece1 => exact kept_piece _ _ _ _ _ 6 768 (by decide) rfl _ slices_S64x1024_o0_768_S64x128 (fun l j => ld_state _ 6 (by decide) _ l j) y x (by omega) h1 h2
  case piece2 => exact kept_piece _ _ _ _ _ 5 640 (by decide) rfl _ slices_S64x1024_o0_640_S64x128 (fun l j => ld_state _ 5 (by decide) _ l j) y x (by omega) h1 h2
  case piece3 => exact kept_piece _ _ _ _ _ 4 512 (by decide) rfl _ slices_S64x1024_o0_512_S64x128 (fun l j => ld_state _ 4 (by decide) _ l j) y x (by omega) h1 h2
  case piece4 => exact kept_piece _ _ _ _ _ 3 384 (by decide) rfl _ slices_S64x1024_o0_384_S64x128 (fun l j => ld_state _ 3 (by decide) _ l j) y x (by omega) h1 h2
  case piece5 => exact kept_piece _ _ _ _ _ 2 256 (by decide) rfl _ slices_S64x1024_o0_256_S64x128 (fun l j => ld_state _ 2 (by decide) _ l j) y x (by omega) h1 h2
  case piece6 => exact kept_piece _ _ _ _ _ 1 128 (by decide) rfl _ slices_S64x1024_o0_128_S64x128 (fun l j => ld_state _ 1 (by decide) _ l j) y x (by omega) h1 h2
  case piece7 => exact kept_piece _ _ _ _ _ 0 0 (by decide) rfl _ slices_S64x1024_o0_0_S64x128 (fun l j => ld_state _ 0 (by decide) _ l j) y x (by omega) h1 h2

/-- One head's written state. -/
theorem back_piece (k v f : Vec Ideal S64x1024 .f32) (X : Vec Ideal S8x128x128 .f32) (n o : Nat) (hn : n < 8) (ho : o = 128 * n) (i1 i2)
    (hs : S64x1024.Slices ![0, o] S64x128)
    (y : S1x8x128x128.Idx) (x : S1x1x128x128.Idx) (h1 : (y 1).val = n) (h2 : (y 2).val = (x 2).val) (h3 : (y 3).val = (x 3).val) :
    k0_pay10 (k0_pay226 (extractStridedSlice S64x128 ![0, o] (k0_pay18 f) hs) (View.ld k (Rect.unit (s := S64x1024) ![0, o] S64x128.size i1))
        (View.ld X (Rect.unit (s := S8x128x128) ![n, 0, 0] S1x128x128.size i2)) (View.ld v (Rect.unit (s := S64x1024) ![0, o] S64x128.size i1))) x
      = next k v f X (ix3 (y 1) (y 3) (y 2)) := by
  obtain ⟨j, l, rfl⟩ : ∃ j l : Fin 128, x = ix4 0 0 j l := ⟨x 2, x 3, (eq_ix4 x).trans (by congr 1 <;> exact Subsingleton.elim (α := Fin 1) _ _)⟩
  rw [back_apply, next_piece k v f X _ n o hn ho i1 hs (fun l j => ld_state X n hn i2 l j) l j]
  refine congrArg (next k v f X) (funext fun a => Fin.ext ?_)
  fin_cases a
  · exact h1.symm
  · exact h3.symm
  · exact h2.symm

/-- The last point's written states. -/
theorem last (c : Dev nD) (t s : Fin cfg0.N) (e : t.val = s.val + 1) (h1 : t.val % 128 = 127) :
    (outsAt0 m c t.val t.isLt).2.1 = fun y => nextAt m c t (outsAt0 m c s.val s.isLt).2.2 (ix3 (y 1) (y 3) (y 2)) := by
  rw [outsAt0_C m c t (by omega) h1]
  simp only [prev_point m c t s e]
  unfold out0_C_8
  frame_out
  simp only [read_unread_whole]
  simp (disch := decide) only [↓View.readCov_skip, ↓View.readCov_cons_toLoadRect]
  funext y
  canon_tiles x h
  case piece0 => exact back_piece _ _ _ _ 7 896 (by decide) rfl _ _ slices_S64x1024_o0_896_S64x128 y x (by omega) h2 h3
  case piece1 => exact back_piece _ _ _ _ 6 768 (by decide) rfl _ _ slices_S64x1024_o0_768_S64x128 y x (by omega) h2 h3
  case piece2 => exact back_piece _ _ _ _ 5 640 (by decide) rfl _ _ slices_S64x1024_o0_640_S64x128 y x (by omega) h2 h3
  case piece3 => exact back_piece _ _ _ _ 4 512 (by decide) rfl _ _ slices_S64x1024_o0_512_S64x128 y x (by omega) h2 h3
  case piece4 => exact back_piece _ _ _ _ 3 384 (by decide) rfl _ _ slices_S64x1024_o0_384_S64x128 y x (by omega) h2 h3
  case piece5 => exact back_piece _ _ _ _ 2 256 (by decide) rfl _ _ slices_S64x1024_o0_256_S64x128 y x (by omega) h2 h3
  case piece6 => exact back_piece _ _ _ _ 1 128 (by decide) rfl _ _ slices_S64x1024_o0_128_S64x128 y x (by omega) h2 h3
  case piece7 => exact back_piece _ _ _ _ 0 0 (by decide) rfl _ _ slices_S64x1024_o0_0_S64x128 y x (by omega) h2 h3

/-- A chunk takes the states after the chunks before it to those after it, -/
theorem nextAt_apply (c : Dev nD) (t : Fin cfg0.N) (X : Vec Ideal S8x128x128 .f32) (n : ℕ) (hn : t.val % 128 = n)
    (hX : ∀ h l j, X (ix3 h l j) = GlaPRows.stateAfter (argK m c) (argV m c) (argF m c) (argS m c) (seqOf t) h n j l) (h : Fin 8) (l j : Fin 128) :
    nextAt m c t X (ix3 h l j) = GlaPRows.stateAfter (argK m c) (argV m c) (argF m c) (argS m c) (seqOf t) h (n + 1) j l := by
  subst hn
  show GlaPRows.chunk (cols (iblk m c 1 t) h) (cols (iblk m c 2 t) h) (cols (iblk m c 3 t) h) (fun j l => X (ix3 h l j)) j l = _
  rw [ib1, ib2, ib3]
  simp only [hX]
  rfl

/-- so the kept states after a point are those of its sequence after its chunk, -/
theorem kept (c : Dev nD) (n : ℕ) (hn : n < cfg0.N) (hl : ¬ n % 128 = 127) (h : Fin 8) (l j : Fin 128) :
    (outsAt0 m c n hn).2.2 (ix3 h l j) = GlaPRows.stateAfter (argK m c) (argV m c) (argF m c) (argS m c) (seqOf ⟨n, hn⟩) h (n % 128 + 1) j l := by
  induction n generalizing h l j with
  | zero =>
    rw [first m c ⟨0, hn⟩ rfl]
    exact nextAt_apply m c ⟨0, hn⟩ _ 0 rfl (fun h l j => ib6 m c ⟨0, hn⟩ h j l) h l j
  | succ n ih =>
    by_cases h0 : (n + 1) % 128 = 0
    · rw [first m c ⟨n + 1, hn⟩ h0, h0]
      exact nextAt_apply m c ⟨n + 1, hn⟩ _ 0 h0 (fun h l j => ib6 m c ⟨n + 1, hn⟩ h j l) h l j
    · rw [mid m c ⟨n + 1, hn⟩ ⟨n, by omega⟩ rfl h0 hl]
      refine nextAt_apply m c ⟨n + 1, hn⟩ _ _ rfl (fun h l j => ?_) h l j
      rw [ih (by omega) (by omega) h l j, show seqOf ⟨n + 1, hn⟩ = seqOf ⟨n, by omega⟩ from Fin.ext (by simp only [seqOf]; omega), show (n + 1) % 128 = n % 128 + 1 by omega]

/-- and the last point writes the states after all chunks. -/
theorem written (c : Dev nD) (t : Fin cfg0.N) (h1 : t.val % 128 = 127) (h : Fin 8) (j l : Fin 128) :
    (outsAt0 m c t.val t.isLt).2.1 (ix4 0 h j l) = GlaPRows.final (argK m c) (argV m c) (argF m c) (argS m c) (ix4 (seqOf t) h j l) := by
  have := t.isLt
  rw [last m c t ⟨t.val - 1, by omega⟩ (by simp only; omega) h1]
  refine nextAt_apply m c t _ 127 h1 (fun h l j => ?_) h l j
  rw [kept m c (t.val - 1) (by omega) (by omega) h l j, show seqOf ⟨t.val - 1, by omega⟩ = seqOf t from Fin.ext (by simp only [seqOf]; omega), show (t.val - 1) % 128 + 1 = 127 by omega]

/-- The state array ends holding the states after all chunks. -/
theorem final8 (c : Dev nD) : (dats m 0 c).arrAt 8 cfg0.N = GlaPRows.final (argK m c) (argV m c) (argF m c) (argS m c) := by
  refine (dats m 0 c).arrAt_eq_of_covers 8 _ (by decide +kernel) fun t hf y => ?_
  obtain ⟨a, h, j, l, rfl⟩ : ∃ (a : Fin 1) (b : Fin 8) (d e : Fin 128), y = ix4 a b d e := ⟨y 0, y 1, y 2, y 3, eq_ix4 y⟩
  obtain rfl : a = 0 := Subsingleton.elim (α := Fin 1) _ _
  blk_simp
  rw [after0_8, written m c t ((flush0_8 t).mp hf)]
  refine congrArg (GlaPRows.final _ _ _ _) ?_
  blk_ext [idx t]
  rfl

end Cert.GlaPIdeal.RefValue

end
-- ==== Proof.GlaPRefValue.lean ====
/-
  The reference's recurrence over the chunks of a prompt, read position by position: a trip of its loop makes of every
  head's state what the chunk makes of it.
-/
module

public import proofs.«01_k».proof.Proof.GlaPRows
public import proofs.«01_k».proof.Proof.Gen.GlaPRefIdeal.StepRun
public import Idealize.ShloMosaic.Lib.Pointwise
public import Idealize.ShloMosaic.Lib.WordCmp

@[expose] public section

set_option maxRecDepth 16384

noncomputable section

open Idealize.ShloMosaic Idealize.ShloMosaic.TcCoe Idealize.ShloMosaic.WordCmp Idealize.SL.Sem

namespace Cert.GlaPRefIdeal.RefValue

open Cert.GlaPRefIdeal Cert.GlaPRefIdeal.Gen Cert.GlaPRefIdeal.Step Cert.Proof

/-- An argument's rows split into chunks and heads, -/
def chunks (x : FVec Ideal S16384x1024 .f32) : FVec Ideal S128x2x8x64x128 .f32 :=
  transpose S128x2x8x64x128 [1, 0, 3, 2, 4] (shapeCast _ x shapeCasts_S16384x1024_S2x128x64x8x128) transposes_S2x128x64x8x128_S128x2x8x64x128_1_0_3_2_4

/-- a chunk's row of a head being its columns of the argument's row. -/
theorem chunks_apply (x : FVec Ideal S16384x1024 .f32) (n : Fin 128) (b : Fin 2) (h : Fin 8) (r : Fin 64) (j : Fin 128) :
    chunks x (ix5 n b h r j) = GlaPRows.chunkRow x b h n.val r j := by
  unfold chunks GlaPRows.chunkRow
  have e : (⟨b.val * 8192 + n.val % 128 * 64 + r.val, by omega⟩ : Fin 16384) = ⟨b.val * 8192 + n.val * 64 + r.val, by omega⟩ := Fin.ext (by simp only; omega)
  have e' : (⟨128 * h.val + j.val, by omega⟩ : Fin 1024) = ⟨h.val * 128 + j.val, by omega⟩ := Fin.ext (by simp only; omega)
  rw [e, e']
  pointwise

/-- The chunk of trip `n`. -/
theorem slice_apply (x : FVec Ideal S128x2x8x64x128 .f32) (st : Fin 5 → Int) (n : Fin 128) (h0 : st 0 = n.val) (h1 : st 1 = 0) (h2 : st 2 = 0) (h3 : st 3 = 0) (h4 : st 4 = 0)
    (hf : S128x2x8x64x128.Slices (fun _ => 0) S1x2x8x64x128) (b : Fin 2) (h : Fin 8) (r : Fin 64) (j : Fin 128) :
    shapeCast S2x8x64x128 (Host.dynamicSlice S1x2x8x64x128 x st hf) shapeCasts_S1x2x8x64x128_S2x8x64x128 (ix4 b h r j) = x (ix5 n b h r j) := by
  have hk : S128x2x8x64x128.Slices ![n.val, 0, 0, 0, 0] S1x2x8x64x128 := ⟨rfl, fun a => by fin_cases a <;> simp <;> omega⟩
  rw [dynamicSlice_eq_extract _ _ _ _ ![n.val, 0, 0, 0, 0] hk (fun a => by fin_cases a <;> simp [h0, h1, h2, h3, h4])]
  pointwise

/-- What a trip makes of the states. -/
theorem step_apply (s : State Ideal) (n : Fin 128) (b : Fin 2) (h : Fin 8) (j l : Fin 128) :
    b32 n.val s (ix4 b h j l) = GlaPRows.chunk (fun r d => s.main_v6_0 (ix5 n b h r d)) (fun r d => s.main_v6_1 (ix5 n b h r d))
      (fun r d => s.main_v6_2 (ix5 n b h r d)) (fun j l => s.main_v6_4 (ix4 b h j l)) j l := by
  have hn : (BitVec.ofNat 32 n.val).toInt = n.val := toInt_ofNat_of_lt (by have := n.isLt; omega)
  have e5 : ∀ r d, b5 n.val s (ix4 b h r d) = s.main_v6_0 (ix5 n b h r d) := fun r d => slice_apply _ _ n hn rfl rfl rfl rfl _ b h r d
  have e11 : ∀ r d, b11 n.val s (ix4 b h r d) = s.main_v6_1 (ix5 n b h r d) := fun r d => slice_apply _ _ n hn rfl rfl rfl rfl _ b h r d
  have e17 : ∀ r d, b17 n.val s (ix4 b h r d) = s.main_v6_2 (ix5 n b h r d) := fun r d => slice_apply _ _ n hn rfl rfl rfl rfl _ b h r d
  have e20 : ∀ r d, b20 n.val s (ix4 b h r d) = GlaPRows.cum (fun r => s.main_v6_2 (ix5 n b h r d)) r := by
    intro r d
    unfold b20
    rw [GlaPRows.running64 _ _ _ _ (by unfold b19 b18; pointwise)]
    simp only [e17]
  unfold b32 b31 b30 b29 b28 b27 b26 b25 b24 b23 b22 b21
  pointwise [dot_S2x8x64x128_S2x8x64x128_S2x8x128x128_2_2_3_3_01_01, e5, e11, e20, GlaPRows.chunk, GlaPRows.total]

/-- The states the trips go through. -/
def states (k v f : FVec Ideal S16384x1024 .f32) (s : FVec Ideal S2x8x128x128 .f32) : ℕ → State Ideal
  | 0 => init s k v f
  | n + 1 => step n (states k v f s n)

/-- The chunks stay, -/
theorem states_args (k v f : FVec Ideal S16384x1024 .f32) (s : FVec Ideal S2x8x128x128 .f32) (n : ℕ) :
    (states k v f s n).main_v6_0 = chunks k ∧ (states k v f s n).main_v6_1 = chunks v ∧ (states k v f s n).main_v6_2 = chunks f := by
  induction n with
  | zero => exact ⟨rfl, rfl, rfl⟩
  | succ n ih => exact ih

/-- and the heads' states follow the recurrence. -/
theorem states_apply (k v f : FVec Ideal S16384x1024 .f32) (s : FVec Ideal S2x8x128x128 .f32) (b : Fin 2) (h : Fin 8) (n : ℕ) (hn : n ≤ 128) (j l : Fin 128) :
    (states k v f s n).main_v6_4 (ix4 b h j l) = GlaPRows.stateAfter k v f s b h n j l := by
  induction n generalizing j l with
  | zero => rfl
  | succ n ih =>
    obtain ⟨e0, e1, e2⟩ := states_args k v f s n
    refine (step_apply (states k v f s n) ⟨n, hn⟩ b h j l).trans ?_
    simp only [e0, e1, e2, chunks_apply, ih (by omega)]
    rfl

theorem states_final (k v f : FVec Ideal S16384x1024 .f32) (s : FVec Ideal S2x8x128x128 .f32) :
    (states k v f s 128).main_v6_4 = GlaPRows.final k v f s := by
  funext i
  obtain ⟨b, h, j, l, rfl⟩ : ∃ (a : Fin 2) (b : Fin 8) (c d : Fin 128), i = ix4 a b c d := ⟨i 0, i 1, i 2, i 3, eq_ix4 i⟩
  exact states_apply k v f s b h 128 le_rfl j l

end Cert.GlaPRefIdeal.RefValue

end
-- ==== Proof.GlaPClaims.lean ====
/-
  The recurrent layer's state over a whole prompt, chunk by chunk.
-/
module

public import proofs.«01_k».proof.Defs
public import proofs.«01_k».proof.Proof.GlaPValue
public import proofs.«01_k».proof.Proof.GlaPRefValue
public import proofs.«01_k».proof.Proof.Gen.GlaP.Frame
public import Idealize.ShloMosaic.Lib.Quiescent

@[expose] public section

set_option maxRecDepth 16384

noncomputable section

open Idealize.ShloMosaic Idealize.ShloMosaic.TcCoe Idealize.SL.Sem

namespace Cert.Proof.GlaPClaims

/-- The frames: the kernel's two programs leave their arguments as launched, by their generated runs, -/
theorem frame_p : Cert.quiescent_GlaP := fun m ρ _ => Cert.GlaP.Gen.frame m ρ
theorem frame_pi : Cert.quiescent_GlaPIdeal := fun m ρ _ => Cert.GlaPIdeal.Gen.frame m ρ
/-- and so does the reference. -/
theorem frame_ri : Cert.quiescent_GlaPRefIdeal := fun m ρ _ =>
  (θ_run Cert.GlaPRefIdeal.defs _ _).mono (fun r h => ⟨fun c => (h c).2,
      Idealize.ShloMosaic.sem_eq_zero_of_no_sems (by decide) r.2⟩)
    (Cert.GlaPRefIdeal.Value.run (F := Ideal) m ρ)

/-- The one named constant: the kernel's base-two logarithm of e stands for one over the natural logarithm of two. -/
theorem preserves : Cert.preserves_GlaP_GlaPIdeal :=
  IdealRules.named_const.statement Cert.GlaPIdeal.κ "log2e" .f32 0x3FB8AA3B#32 (((Real.log 2)⁻¹ : ℝ) : EReal) rfl

/-- On the extended reals the kernel's states are the reference's. -/
theorem algebraic : Cert.algebraic_GlaPIdeal_GlaPRefIdeal := by
  intro m ρ m' ρ' _ hagree
  refine ⟨fun c => GlaPRows.final (GlaPIdeal.RefValue.argK m c) (GlaPIdeal.RefValue.argV m c) (GlaPIdeal.RefValue.argF m c) (GlaPIdeal.RefValue.argS m c), ?_, ?_⟩
  · exact (θ_run Cert.GlaPIdeal.defs _ _).mono
      (fun _ h c => ⟨(h c).2.1.trans (GlaPIdeal.RefValue.final8 m c), (h c).2.2⟩)
      (Cert.GlaPIdeal.Value.run_blocks (F := Ideal) m ρ)
  have e : ∀ c, GlaPIdeal.RefValue.argK m c = m' ((c.tc : Thread Cert.GlaPRefIdeal.nD Cert.GlaPRefIdeal.τ).loc Cert.GlaPRefIdeal.main_arg1)
      ∧ GlaPIdeal.RefValue.argV m c = m' ((c.tc : Thread Cert.GlaPRefIdeal.nD Cert.GlaPRefIdeal.τ).loc Cert.GlaPRefIdeal.main_arg2)
      ∧ GlaPIdeal.RefValue.argF m c = m' ((c.tc : Thread Cert.GlaPRefIdeal.nD Cert.GlaPRefIdeal.τ).loc Cert.GlaPRefIdeal.main_arg3)
      ∧ GlaPIdeal.RefValue.argS m c = m' ((c.tc : Thread Cert.GlaPRefIdeal.nD Cert.GlaPRefIdeal.τ).loc Cert.GlaPRefIdeal.main_arg6) := fun c =>
    ⟨(hagree c).2.1.symm, (hagree c).2.2.1.symm, (hagree c).2.2.2.1.symm, (hagree c).2.2.2.2.2.2.symm⟩
  simp only [e]
  exact (θ_run Cert.GlaPRefIdeal.defs _ _).mono (fun _ h c => ⟨(h c).1.trans (GlaPRefIdeal.RefValue.states_final _ _ _ _), (h c).2⟩)
    (Cert.GlaPRefIdeal.StepRun.run_iter (F := Ideal) m' ρ' (fun c => GlaPRefIdeal.RefValue.states (m' ((c.tc : Thread Cert.GlaPRefIdeal.nD Cert.GlaPRefIdeal.τ).loc Cert.GlaPRefIdeal.main_arg1))
      (m' ((c.tc : Thread Cert.GlaPRefIdeal.nD Cert.GlaPRefIdeal.τ).loc Cert.GlaPRefIdeal.main_arg2)) (m' ((c.tc : Thread Cert.GlaPRefIdeal.nD Cert.GlaPRefIdeal.τ).loc Cert.GlaPRefIdeal.main_arg3))
      (m' ((c.tc : Thread Cert.GlaPRefIdeal.nD Cert.GlaPRefIdeal.τ).loc Cert.GlaPRefIdeal.main_arg6))) (fun _ => rfl) (fun _ _ => rfl))

end Cert.Proof.GlaPClaims

end
-- ==== Proof.CastValue.lean ====
/-
  The cast of the query/key/value weights to bf16, block by block: over the extended reals, the weights themselves.
-/
module

public import proofs.«01_k».proof.Defs
public import proofs.«01_k».proof.Proof.Gen.Cast.Frame
public import proofs.«01_k».proof.Proof.Gen.CastIdeal.Value
public import proofs.«01_k».proof.Proof.Gen.CastRefIdeal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.CastIdeal.RefValue

open Cert.CastIdeal Cert.CastIdeal.Gen
open Idealize.ShloMosaic.Pipeline (Dat)

variable (m : (ℓ : Loc nD τ sig) → Buf (Elt Ideal) ℓ) (ρ : Dev nD → PrngReg)

/-- The weights as a matrix. -/
def matrix (w : FVec Ideal S1x1024x3072 .f32) : FVec Ideal S1024x3072 .bf16 := fun i => w (ix3 0 (i 0) (i 1))

/-- Both windows' blocks at point `t` are the block of columns `t`. -/
theorem idx : ∀ t : Fin cfg0.N, win0_0.index t = ![0, t.val] ∧ win0_1.index t = ![0, t.val] :=
  (by decide +kernel : ∀ t : Fin grid0.N, win0_0.index t = ![0, t.val] ∧ win0_1.index t = ![0, t.val])

/-- The weights' block at point `t`. -/
theorem ib0 (c : Dev nD) (t : Fin cfg0.N) (a : Fin 1024) (k : Fin 1024) :
    iblk m c 0 t (ix2 a k) = m ((c : Thread nD τ).loc main_arg0)
      (ix3 0 a ⟨t.val * 1024 + k.val, by have : t.val < 3 := N_0 ▸ t.isLt; omega⟩) := by
  unfold iblk
  entry_read
  blk_simp [idx t]
  pointwise
  blk_ext [idx t]

/-- The body's block is the block it read. -/
theorem pay_apply (v : Vec Ideal S1024x1024 .f32) (a b : Fin 1024) : k0_pay1 v (ix2 a b) = v (ix2 a b) := by
  unfold_payloads
  pointwise

/-- The result array ends holding the weights. -/
theorem final1 (c : Dev nD) : (dats m 0 c).arrAt 1 cfg0.N = matrix (m ((c : Thread nD τ).loc main_arg0)) := by
  refine (dats m 0 c).arrAt_eq_of_covers 1 _ (by decide +kernel) fun t hf y => ?_
  blk_simp
  rw [after0_1]
  frame_out
  obtain ⟨a, b, rfl⟩ : ∃ (a : Fin 1024) (b : Fin 1024), y = ix2 a b := ⟨y 0, y 1, eq_ix2 y⟩
  rw [pay_apply, ib0]
  unfold matrix
  blk_ext [idx t]

end Cert.CastIdeal.RefValue

namespace Cert.CastRefIdeal.RefValue

open Cert.CastRefIdeal Cert.CastRefIdeal.Gen

/-- The reference's cast weights are the weights as a matrix. -/
theorem cast_eq (w : FVec Ideal S1x1024x3072 .f32) :
    truncf .bf16 (shapeCast S1024x3072 w shapeCasts_S1x1024x3072_S1024x3072) bitsLt_bf16_f32 = CastIdeal.RefValue.matrix w := by
  funext i
  obtain ⟨r, l, rfl⟩ : ∃ (r : Fin 1024) (l : Fin 3072), i = ix2 r l := ⟨i 0, i 1, eq_ix2 i⟩
  pointwise [CastIdeal.RefValue.matrix]

end Cert.CastRefIdeal.RefValue

namespace Cert.Proof.CastClaims

/-- The frames: the kernel's two programs leave their arguments as launched, by their generated runs, -/
theorem frame_p : Cert.quiescent_Cast := fun m ρ _ => Cert.Cast.Gen.frame m ρ
theorem frame_pi : Cert.quiescent_CastIdeal := fun m ρ _ => Cert.CastIdeal.Gen.frame m ρ
/-- and so does the reference. -/
theorem frame_ri : Cert.quiescent_CastRefIdeal := fun m ρ _ =>
  (θ_run Cert.CastRefIdeal.defs _ _).mono (fun r h => ⟨fun c => (h c).2,
      Idealize.ShloMosaic.sem_eq_zero_of_no_sems (by decide) r.2⟩)
    (Cert.CastRefIdeal.Value.run (F := Ideal) m ρ)

/-- No operation was rewritten. -/
theorem preserves : Cert.preserves_Cast_CastIdeal := trivial

/-- On the extended reals the kernel's cast weights are the reference's. -/
theorem algebraic : Cert.algebraic_CastIdeal_CastRefIdeal := by
  intro m ρ m' ρ' _ hagree
  refine ⟨fun c => CastIdeal.RefValue.matrix (m ((c : Thread Cert.CastIdeal.nD Cert.CastIdeal.τ).loc Cert.CastIdeal.main_arg0)), ?_, ?_⟩
  · exact (θ_run Cert.CastIdeal.defs _ _).mono (fun _ h c => ⟨(h c).1.trans (CastIdeal.RefValue.final1 m c), (h c).2⟩)
      (Cert.CastIdeal.Value.run_blocks (F := Ideal) m ρ)
  refine (θ_run Cert.CastRefIdeal.defs _ _).mono (fun _ h c => ⟨(h c).1.trans ?_, (h c).2⟩)
    (Cert.CastRefIdeal.Value.run (F := Ideal) m' ρ')
  rw [hagree c]
  exact CastRefIdeal.RefValue.cast_eq _

end Cert.Proof.CastClaims

end
-- ==== Proof.lean ====
/- The certificate's claims, assembled from the modules that prove them. -/
module

public import proofs.«01_k».proof.Defs
public import proofs.«01_k».proof.Proof.GlaClaims
public import proofs.«01_k».proof.Proof.MlpValue
public import proofs.«01_k».proof.Proof.QkvValue
public import proofs.«01_k».proof.Proof.HgrnInValue
public import proofs.«01_k».proof.Proof.QkvSValue
public import proofs.«01_k».proof.Proof.MlpSValue
public import proofs.«01_k».proof.Proof.GlaPClaims
public import proofs.«01_k».proof.Proof.CastValue

@[expose] public section

noncomputable section

namespace Cert.Proof

/-- Every claim of the certificate. -/
theorem claim : Cert.Claim := ⟨Cert.Gla.Gen.facts, Cert.GlaIdeal.Gen.facts, Cert.GlaRefIdeal.Gen.facts, Cert.Mlp.Gen.facts, Cert.MlpIdeal.Gen.facts, Cert.MlpRefIdeal.Gen.facts, Cert.Qkv.Gen.facts, Cert.QkvIdeal.Gen.facts, Cert.QkvRefIdeal.Gen.facts, Cert.HgrnIn.Gen.facts, Cert.HgrnInIdeal.Gen.facts, Cert.HgrnInRefIdeal.Gen.facts, Cert.QkvS.Gen.facts, Cert.QkvSIdeal.Gen.facts, Cert.QkvSRefIdeal.Gen.facts, Cert.MlpS.Gen.facts, Cert.MlpSIdeal.Gen.facts, Cert.MlpSRefIdeal.Gen.facts, Cert.GlaP.Gen.facts, Cert.GlaPIdeal.Gen.facts, Cert.GlaPRefIdeal.Gen.facts, Cert.Cast.Gen.facts, Cert.CastIdeal.Gen.facts, Cert.CastRefIdeal.Gen.facts,
  GlaClaims.frame_p, GlaClaims.frame_pi, GlaClaims.frame_ri, MlpClaims.frame_p, MlpClaims.frame_pi, MlpClaims.frame_ri, QkvClaims.frame_p, QkvClaims.frame_pi, QkvClaims.frame_ri, HgrnInClaims.frame_p, HgrnInClaims.frame_pi, HgrnInClaims.frame_ri, QkvSClaims.frame_p, QkvSClaims.frame_pi, QkvSClaims.frame_ri, MlpSClaims.frame_p, MlpSClaims.frame_pi, MlpSClaims.frame_ri, GlaPClaims.frame_p, GlaPClaims.frame_pi, GlaPClaims.frame_ri, CastClaims.frame_p, CastClaims.frame_pi, CastClaims.frame_ri, GlaClaims.preserves, GlaClaims.algebraic, MlpClaims.preserves, MlpClaims.algebraic, QkvClaims.preserves, QkvClaims.algebraic, HgrnInClaims.preserves, HgrnInClaims.algebraic, QkvSClaims.preserves, QkvSClaims.algebraic, MlpSClaims.preserves, MlpSClaims.algebraic, GlaPClaims.preserves, GlaPClaims.algebraic, CastClaims.preserves, CastClaims.algebraic⟩

end Cert.Proof

end
